-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S256x1024 : Shape := ⟨2, ![256, 1024]⟩
abbrev S1024x1024 : Shape := ⟨2, ![1024, 1024]⟩
abbrev S4 : Shape := ⟨1, ![4]⟩
abbrev S3x4 : Shape := ⟨2, ![3, 4]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x4 : Shape := ⟨2, ![1, 4]⟩
abbrev S1024x4 : Shape := ⟨2, ![1024, 4]⟩
abbrev S1023x4 : Shape := ⟨2, ![1023, 4]⟩
abbrev S2x4 : Shape := ⟨2, ![2, 4]⟩
abbrev S1022x4 : Shape := ⟨2, ![1022, 4]⟩
abbrev S4x4 : Shape := ⟨2, ![4, 4]⟩
abbrev S1020x4 : Shape := ⟨2, ![1020, 4]⟩
abbrev S8x4 : Shape := ⟨2, ![8, 4]⟩
abbrev S1016x4 : Shape := ⟨2, ![1016, 4]⟩
abbrev S16x4 : Shape := ⟨2, ![16, 4]⟩
abbrev S1008x4 : Shape := ⟨2, ![1008, 4]⟩
abbrev S32x4 : Shape := ⟨2, ![32, 4]⟩
abbrev S992x4 : Shape := ⟨2, ![992, 4]⟩
abbrev S64x4 : Shape := ⟨2, ![64, 4]⟩
abbrev S960x4 : Shape := ⟨2, ![960, 4]⟩
abbrev S128x4 : Shape := ⟨2, ![128, 4]⟩
abbrev S896x4 : Shape := ⟨2, ![896, 4]⟩
abbrev S256x4 : Shape := ⟨2, ![256, 4]⟩
abbrev S768x4 : Shape := ⟨2, ![768, 4]⟩
abbrev S512x4 : Shape := ⟨2, ![512, 4]⟩
abbrev S1024 : Shape := ⟨1, ![1024]⟩
abbrev S1x256 : Shape := ⟨2, ![1, 256]⟩
abbrev S1024x256 : Shape := ⟨2, ![1024, 256]⟩
abbrev S256x512 : Shape := ⟨2, ![256, 512]⟩
abbrev S64x512 : Shape := ⟨2, ![64, 512]⟩
abbrev S64x1024 : Shape := ⟨2, ![64, 1024]⟩
abbrev S1x1 : Shape := ⟨2, ![1, 1]⟩
abbrev S32x1024 : Shape := ⟨2, ![32, 1024]⟩
abbrev S1x16 : Shape := ⟨2, ![1, 16]⟩
abbrev S1024x16 : Shape := ⟨2, ![1024, 16]⟩
abbrev S1023x16 : Shape := ⟨2, ![1023, 16]⟩
abbrev S2x16 : Shape := ⟨2, ![2, 16]⟩
abbrev S1022x16 : Shape := ⟨2, ![1022, 16]⟩
abbrev S4x16 : Shape := ⟨2, ![4, 16]⟩
abbrev S1020x16 : Shape := ⟨2, ![1020, 16]⟩
abbrev S8x16 : Shape := ⟨2, ![8, 16]⟩
abbrev S1016x16 : Shape := ⟨2, ![1016, 16]⟩
abbrev S16x16 : Shape := ⟨2, ![16, 16]⟩
abbrev S1008x16 : Shape := ⟨2, ![1008, 16]⟩
abbrev S32x16 : Shape := ⟨2, ![32, 16]⟩
abbrev S992x16 : Shape := ⟨2, ![992, 16]⟩
abbrev S64x16 : Shape := ⟨2, ![64, 16]⟩
abbrev S960x16 : Shape := ⟨2, ![960, 16]⟩
abbrev S128x16 : Shape := ⟨2, ![128, 16]⟩
abbrev S896x16 : Shape := ⟨2, ![896, 16]⟩
abbrev S256x16 : Shape := ⟨2, ![256, 16]⟩
abbrev S768x16 : Shape := ⟨2, ![768, 16]⟩
abbrev S256x1 : Shape := ⟨2, ![256, 1]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S4x512x1024, .f32⟩
  | .hbm, ⟨4, _⟩ => ⟨S256x1024, .f32⟩
  | .local _ .vmem, ⟨0, _⟩ => ⟨S1024x512, .f32⟩
  | .local _ .vmem, ⟨1, _⟩ => ⟨S1024x1, .i32⟩
  | .local _ .vmem, ⟨2, _⟩ => ⟨S256x1024, .f32⟩
  | .local _ .vmem, ⟨3, _⟩ => ⟨S1024x1, .f32⟩
  | .local _ .vmem, ⟨4, _⟩ => ⟨S1024x1024, .bf16⟩
  | .local _ .vmem, ⟨5, _⟩ => ⟨S256x1024, .bf16⟩
  | .local _ .vmem, ⟨6, _⟩ => ⟨S4x512x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_40 : BitVec 32 := 1#32
  let v50 : BitVec 32 := Scalar.muli v13 c1_i32_40
  let v51 : BitVec 32 := Scalar.addi c0_i32_41 v50
  v51.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_43 : BitVec 32 := 1#32
  let v52 : BitVec 32 := Scalar.muli v24 c1_i32_43
  let v53 : BitVec 32 := Scalar.addi c0_i32_44 v52
  v53.toNat
def k0_off1 (d0 : Dev nD) (c0_i32_76 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v128 : BitVec 32 := Scalar.muli v2 c256_i32
  let v150 : BitVec 32 := Scalar.addi v128 c0_i32_76
  let v151 : Index := Scalar.indexCast v150
  let c0_77 : Index := 0#32
  ![v151.toNat, 0]
def k0_off2 (d0 : Dev nD) (c0_i32_78 : BitVec 32) (c0_i32_87 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.subi v2 c0_i32_78
  let c4_i32_79 : BitVec 32 := 4#32
  let c0_i32_80 : BitVec 32 := 0#32
  let v156 : BitVec 1 := Scalar.cmpi .eq c4_i32_79 c0_i32_80
  let c1_i32_81 : BitVec 32 := 1#32
  let v157 : BitVec 32 := Scalar.select v156 c1_i32_81 c4_i32_79
  let v158 : BitVec 32 := Scalar.remsi v155 v157
  let c0_i32_83 : BitVec 32 := 0#32
  let v160 : BitVec 1 := Scalar.cmpi .slt v158 c0_i32_83
  let c0_i32_84 : BitVec 32 := 0#32
  let v161 : BitVec 1 := Scalar.cmpi .slt v157 c0_i32_84
  let v162 : BitVec 1 := Scalar.xori v160 v161
  let c0_i32_82 : BitVec 32 := 0#32
  let v159 : BitVec 1 := Scalar.cmpi .ne v158 c0_i32_82
  let v163 : BitVec 1 := Scalar.andi v162 v159
  let v164 : BitVec 32 := Scalar.addi v158 v157
  let v165 : BitVec 32 := Scalar.select v163 v164 v158
  let c256_i32_85 : BitVec 32 := 256#32
  let v166 : BitVec 32 := Scalar.muli v165 c256_i32_85
  let c0_i32_86 : BitVec 32 := 0#32
  let v167 : BitVec 32 := Scalar.addi v166 c0_i32_86
  let v168 : BitVec 32 := Scalar.addi v167 c0_i32_87
  let c0_i32_94 : BitVec 32 := 0#32
  ![v168.toNat, 0]
def k0_dev3 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_92 : BitVec 32 := 1#32
  let v169 : BitVec 32 := Scalar.muli v24 c1_i32_92
  let v170 : BitVec 32 := Scalar.addi c0_i32_93 v169
  v170.toNat
def k0_dev4 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_109 : BitVec 32 := 1#32
  let v191 : BitVec 32 := Scalar.muli v24 c1_i32_109
  let v192 : BitVec 32 := Scalar.addi c0_i32_110 v191
  v192.toNat
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_139 : BitVec 32 := 1#32
  let v229 : BitVec 32 := Scalar.muli v24 c1_i32_139
  let v230 : BitVec 32 := Scalar.addi c0_i32_140 v229
  v230.toNat
def k0_dev6 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_156 : BitVec 32 := 1#32
  let v251 : BitVec 32 := Scalar.muli v24 c1_i32_156
  let v252 : BitVec 32 := Scalar.addi c0_i32_157 v251
  v252.toNat
def k0_off3 (d0 : Dev nD) (c0_i32_171 : BitVec 32) (c0_i32_180 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v275 : BitVec 32 := Scalar.addi v2 c0_i32_171
  let c4_i32_172 : BitVec 32 := 4#32
  let c0_i32_173 : BitVec 32 := 0#32
  let v276 : BitVec 1 := Scalar.cmpi .eq c4_i32_172 c0_i32_173
  let c1_i32_174 : BitVec 32 := 1#32
  let v277 : BitVec 32 := Scalar.select v276 c1_i32_174 c4_i32_172
  let v278 : BitVec 32 := Scalar.remsi v275 v277
  let c0_i32_176 : BitVec 32 := 0#32
  let v280 : BitVec 1 := Scalar.cmpi .slt v278 c0_i32_176
  let c0_i32_177 : BitVec 32 := 0#32
  let v281 : BitVec 1 := Scalar.cmpi .slt v277 c0_i32_177
  let v282 : BitVec 1 := Scalar.xori v280 v281
  let c0_i32_175 : BitVec 32 := 0#32
  let v279 : BitVec 1 := Scalar.cmpi .ne v278 c0_i32_175
  let v283 : BitVec 1 := Scalar.andi v282 v279
  let v284 : BitVec 32 := Scalar.addi v278 v277
  let v285 : BitVec 32 := Scalar.select v283 v284 v278
  let c256_i32_178 : BitVec 32 := 256#32
  let v286 : BitVec 32 := Scalar.muli v285 c256_i32_178
  let c128_i32_179 : BitVec 32 := 128#32
  let v287 : BitVec 32 := Scalar.addi v286 c128_i32_179
  let v288 : BitVec 32 := Scalar.addi v287 c0_i32_180
  let c0_i32_187 : BitVec 32 := 0#32
  ![v288.toNat, 0]
def k0_dev7 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_185 : BitVec 32 := 1#32
  let v289 : BitVec 32 := Scalar.muli v13 c1_i32_185
  let v290 : BitVec 32 := Scalar.addi c0_i32_186 v289
  v290.toNat
def k0_dev8 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_203 : BitVec 32 := 1#32
  let v311 : BitVec 32 := Scalar.muli v13 c1_i32_203
  let v312 : BitVec 32 := Scalar.addi c0_i32_204 v311
  v312.toNat
def k0_dev9 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_232 : BitVec 32 := 1#32
  let v349 : BitVec 32 := Scalar.muli v13 c1_i32_232
  let v350 : BitVec 32 := Scalar.addi c0_i32_233 v349
  v350.toNat
def k0_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_250 : BitVec 32 := 1#32
  let v371 : BitVec 32 := Scalar.muli v13 c1_i32_250
  let v372 : BitVec 32 := Scalar.addi c0_i32_251 v371
  v372.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_287 : BitVec 32 := 256#32
  let v493 : BitVec 32 := Scalar.muli v2 c256_i32_287
  let v494 : Index := Scalar.indexCast v493
  let c0_288 : Index := 0#32
  ![v494.toNat, 0]
def k0_dev11 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_320 : BitVec 32 := 1#32
  let v531 : BitVec 32 := Scalar.muli v24 c1_i32_320
  let v532 : BitVec 32 := Scalar.addi c0_i32_321 v531
  v532.toNat
def k0_dev12 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v563 : BitVec 32 := Scalar.muli v13 c1_i32_353
  let v564 : BitVec 32 := Scalar.addi c0_i32_354 v563
  v564.toNat
def k0_dev13 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_386 : BitVec 32 := 1#32
  let v595 : BitVec 32 := Scalar.muli v24 c1_i32_386
  let v596 : BitVec 32 := Scalar.addi c0_i32_387 v595
  v596.toNat
def k0_dev14 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_419 : BitVec 32 := 1#32
  let v627 : BitVec 32 := Scalar.muli v13 c1_i32_419
  let v628 : BitVec 32 := Scalar.addi c0_i32_420 v627
  v628.toNat
def k0_dev15 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_452 : BitVec 32 := 1#32
  let v659 : BitVec 32 := Scalar.muli v24 c1_i32_452
  let v660 : BitVec 32 := Scalar.addi c0_i32_453 v659
  v660.toNat
def k0_dev16 (d0 : Dev nD) : Nat :=
  let c0_i32_486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_485 : BitVec 32 := 1#32
  let v691 : BitVec 32 := Scalar.muli v13 c1_i32_485
  let v692 : BitVec 32 := Scalar.addi c0_i32_486 v691
  v692.toNat
def k0_dev17 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_518 : BitVec 32 := 1#32
  let v723 : BitVec 32 := Scalar.muli v24 c1_i32_518
  let v724 : BitVec 32 := Scalar.addi c0_i32_519 v723
  v724.toNat
def k0_dev18 (d0 : Dev nD) : Nat :=
  let c0_i32_552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_551 : BitVec 32 := 1#32
  let v755 : BitVec 32 := Scalar.muli v13 c1_i32_551
  let v756 : BitVec 32 := Scalar.addi c0_i32_552 v755
  v756.toNat
def k0_dev19 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_584 : BitVec 32 := 1#32
  let v787 : BitVec 32 := Scalar.muli v24 c1_i32_584
  let v788 : BitVec 32 := Scalar.addi c0_i32_585 v787
  v788.toNat
def k0_dev20 (d0 : Dev nD) : Nat :=
  let c0_i32_618 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_617 : BitVec 32 := 1#32
  let v819 : BitVec 32 := Scalar.muli v13 c1_i32_617
  let v820 : BitVec 32 := Scalar.addi c0_i32_618 v819
  v820.toNat
def k0_dev21 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_650 : BitVec 32 := 1#32
  let v851 : BitVec 32 := Scalar.muli v24 c1_i32_650
  let v852 : BitVec 32 := Scalar.addi c0_i32_651 v851
  v852.toNat
def k0_dev22 (d0 : Dev nD) : Nat :=
  let c0_i32_684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_683 : BitVec 32 := 1#32
  let v883 : BitVec 32 := Scalar.muli v13 c1_i32_683
  let v884 : BitVec 32 := Scalar.addi c0_i32_684 v883
  v884.toNat
def k0_dev23 (d0 : Dev nD) : Nat :=
  let c0_i32_717 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_716 : BitVec 32 := 1#32
  let v915 : BitVec 32 := Scalar.muli v24 c1_i32_716
  let v916 : BitVec 32 := Scalar.addi c0_i32_717 v915
  v916.toNat
def k0_dev24 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_749 : BitVec 32 := 1#32
  let v947 : BitVec 32 := Scalar.muli v13 c1_i32_749
  let v948 : BitVec 32 := Scalar.addi c0_i32_750 v947
  v948.toNat
def k0_dev25 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_782 : BitVec 32 := 1#32
  let v979 : BitVec 32 := Scalar.muli v24 c1_i32_782
  let v980 : BitVec 32 := Scalar.addi c0_i32_783 v979
  v980.toNat
def k0_dev26 (d0 : Dev nD) : Nat :=
  let c0_i32_816 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_815 : BitVec 32 := 1#32
  let v1011 : BitVec 32 := Scalar.muli v13 c1_i32_815
  let v1012 : BitVec 32 := Scalar.addi c0_i32_816 v1011
  v1012.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x16x1024 : Shape := ⟨3, ![1024, 16, 1024]⟩
abbrev S16 : Shape := ⟨1, ![16]⟩
abbrev S1x16 : Shape := ⟨2, ![1, 16]⟩
abbrev S1024x16 : Shape := ⟨2, ![1024, 16]⟩
abbrev S1024x16x1 : Shape := ⟨3, ![1024, 16, 1]⟩

abbrev nBuf : Space → Nat
  | .hbm => 41
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S16x512x1024, .f32⟩
  | .hbm, ⟨4, _⟩ => ⟨S1024, .i32⟩
  | .hbm, ⟨5, _⟩ => ⟨S1024, .i32⟩
  | .hbm, ⟨6, _⟩ => ⟨S1x1024, .i32⟩
  | .hbm, ⟨7, _⟩ => ⟨S1024x1, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S1024x16x1024, .f32⟩
  | .hbm, ⟨21, _⟩ => ⟨S1024x1, .i32⟩
  | .hbm, ⟨22, _⟩ => ⟨S16, .i32⟩
  | .hbm, ⟨23, _⟩ => ⟨S1x16, .i32⟩
  | .hbm, ⟨24, _⟩ => ⟨S1024x16, .i32⟩
  | .hbm, ⟨25, _⟩ => ⟨S1024x16, .i32⟩
  | .hbm, ⟨26, _⟩ => ⟨S1024x16, .i1⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S1024x1, .i1⟩
  | .hbm, ⟨31, _⟩ => ⟨S1024x16, .i1⟩
  | .hbm, ⟨32, _⟩ => ⟨S1024x16, .i1⟩
  | .hbm, ⟨33, _⟩ => ⟨S1024x16x1, .i1⟩
  | .hbm, ⟨34, _⟩ => ⟨S_, .f32⟩
  | .hbm, ⟨35, _⟩ => ⟨S_, .f32⟩
  | .hbm, ⟨36, _⟩ => ⟨S1024x16x1024, .i1⟩
  | .hbm, ⟨37, _⟩ => ⟨S1024x16x1024, .f32⟩
  | .hbm, ⟨38, _⟩ => ⟨S1024x16x1024, .f32⟩
  | .hbm, ⟨39, _⟩ => ⟨S_, .f32⟩
  | .hbm, ⟨40, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Geometry.lean ====
/-
# The two rings, the segments of the gathered table, the semaphores

Which device a transfer goes to, which rows of the gathered table it carries, and which semaphore it completes on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The rings -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device a ring sends to: the right neighbour (`false`) or the left one (`true`). -/
def tgt (c : Dev nD) (L : Bool) : Dev nD := if L then prv c else nxt c
/-- The device a ring receives from. -/
def frm (c : Dev nD) (L : Bool) : Dev nD := if L then nxt c else prv c

theorem tgt_frm (c : Dev nD) (L : Bool) : tgt (frm c L) L = c := by revert c L; decide
theorem frm_tgt (c : Dev nD) (L : Bool) : frm (tgt c L) L = c := by revert c L; decide

/-- Sending along a ring as a permutation of the devices. -/
def ringE (L : Bool) : Dev nD ≃ Dev nD := ⟨fun c => tgt c L, fun c => frm c L, fun c => frm_tgt c L, fun c => tgt_frm c L⟩

set_option backward.proofsInPublic true in
/-- Whose rows device `c` forwards at hop `k` of a ring (hop 0: its own; hop 3: what the last hop brought). -/
def org (c : Dev nD) (L : Bool) (k : Fin 4) : Dev nD := ⟨(c.val + (if L then k.val else 4 - k.val)) % 4, Nat.mod_lt _ (by decide)⟩

theorem org_zero (c : Dev nD) (L : Bool) : org c L 0 = c := by revert c L; decide
/-- What `c` sends at hop `h` is what its target has after that hop. -/
theorem org_tgt (c : Dev nD) (L : Bool) (h : Fin 3) : org (tgt c L) L h.succ = org c L h.castSucc := by revert c L h; decide
theorem org_inj (c : Dev nD) (L : Bool) (k k' : Fin 4) (h : org c L k = org c L k') : k = k' := by revert c L k k'; decide
theorem org_surj (c o : Dev nD) (L : Bool) : ∃ k, org c L k = o := by revert c o L; decide

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

/-! ## The rows of the gathered table -/

/-- Rows `a` to `a + n`. -/
def rowsSet (a n : ℕ) : Finset S1024x1024.Idx := Finset.univ.filter fun i => a ≤ (i 0 : ℕ) ∧ (i 0 : ℕ) < a + n

theorem mem_rowsSet {a n : ℕ} {i : S1024x1024.Idx} : i ∈ rowsSet a n ↔ a ≤ (i 0 : ℕ) ∧ (i 0 : ℕ) < a + n := by
  simp only [rowsSet, Finset.mem_filter, Finset.mem_univ, true_and]

/-- The first row of segment `g` of ring `L` in device `o`'s rows. -/
def segRow (o : Dev nD) (L : Bool) (g : Fin 4) : ℕ := 256 * o.val + (if L then 128 else 0) + 32 * g.val

def segSet (o : Dev nD) (L : Bool) (g : Fin 4) : Finset S1024x1024.Idx := rowsSet (segRow o L g) 32

theorem rect_set {off size : Fin 2 → ℕ} {inb} {a n : ℕ} (h : off = ![a, 0]) (hs : size = ![n, 1024]) :
    (Rect.unit (s := S1024x1024) off size inb).set = rowsSet a n := by
  subst h hs
  ext i
  rw [Rect.mem_set_unit, mem_rowsSet]
  have h1 : (i 1 : ℕ) < 1024 := (i 1).isLt
  constructor
  · intro h; exact h 0
  · intro h b
    match b with
    | ⟨0, _⟩ => exact h
    | ⟨1, _⟩ => exact ⟨Nat.zero_le _, by show (i 1 : ℕ) < 0 + 1024; omega⟩

theorem off2_eq (c : Dev nD) (h : Fin 3) (g : Fin 4) :
    k0_off2 c (BitVec.ofNat 32 h.val) (BitVec.ofNat 32 (32 * g.val)) = ![segRow (org c false h.castSucc) false g, 0] := by
  revert c h g; decide +kernel
theorem off3_eq (c : Dev nD) (h : Fin 3) (g : Fin 4) :
    k0_off3 c (BitVec.ofNat 32 h.val) (BitVec.ofNat 32 (32 * g.val)) = ![segRow (org c true h.castSucc) true g, 0] := by
  revert c h g; decide +kernel

/-- The chunk of rows that local expert `j`'s product fills, as two segments. -/
def chL (j : Fin 4) : Bool := decide (2 ≤ j.val)
def chA (j : Fin 4) : Fin 4 := if j.val % 2 = 0 then 0 else 2
def chB (j : Fin 4) : Fin 4 := if j.val % 2 = 0 then 1 else 3

def chunkSet (o : Dev nD) (j : Fin 4) : Finset S1024x1024.Idx := rowsSet (256 * o.val + 64 * j.val) 64

theorem chunk_row (o : Dev nD) (j : Fin 4) : segRow o (chL j) (chA j) = 256 * o.val + 64 * j.val ∧ segRow o (chL j) (chB j) = 256 * o.val + 64 * j.val + 32 := by
  revert o j; decide

theorem chunk_union (o : Dev nD) (j : Fin 4) : chunkSet o j = segSet o (chL j) (chA j) ∪ segSet o (chL j) (chB j) := by
  obtain ⟨h1, h2⟩ := chunk_row o j
  ext i
  rw [Finset.mem_union, segSet, segSet, chunkSet, h1, h2, mem_rowsSet, mem_rowsSet, mem_rowsSet]
  omega

theorem chunk_disj (o : Dev nD) (j : Fin 4) : Disjoint (segSet o (chL j) (chA j)) (segSet o (chL j) (chB j)) := by
  obtain ⟨h1, h2⟩ := chunk_row o j
  rw [Finset.disjoint_left]
  intro i
  rw [segSet, segSet, h1, h2, mem_rowsSet, mem_rowsSet]
  omega

/-- The segments of a device, by ring, hop and piece: every row of the table is in exactly one. -/
abbrev SegIx : Type := Bool × Fin 4 × Fin 4
def segOf (c : Dev nD) (s : SegIx) : Finset S1024x1024.Idx := segSet (org c s.1 s.2.1) s.1 s.2.2

theorem segRow_lt (o : Dev nD) (L : Bool) (g : Fin 4) : segRow o L g + 32 ≤ 1024 := by revert o L g; decide

theorem seg_disj (c : Dev nD) : ((Finset.univ : Finset SegIx) : Set SegIx).PairwiseDisjoint (segOf c) := by
  intro s _ t _ hne
  refine Finset.disjoint_left.2 fun i hs ht => hne ?_
  obtain ⟨L, k, g⟩ := s
  obtain ⟨L', k', g'⟩ := t
  simp only [segOf, segSet, mem_rowsSet, segRow] at hs ht
  have hg := g.isLt; have hg' := g'.isLt
  have hL : L = L' := by
    cases L <;> cases L' <;> simp only [Bool.false_eq_true, if_true, if_false] at hs ht ⊢ <;> omega
  subst hL
  have hr : 256 * (org c L k).val + 32 * g.val = 256 * (org c L k').val + 32 * g'.val := by omega
  have ho : (org c L k) = (org c L k') := Fin.ext (by omega)
  have hk := org_inj c L k k' ho
  subst hk
  have : g = g' := Fin.ext (by omega)
  subst this
  rfl

theorem seg_cover (c : Dev nD) : (Finset.univ : Finset SegIx).biUnion (segOf c) = (Finset.univ : Finset S1024x1024.Idx) := by
  ext i
  simp only [Finset.mem_biUnion, Finset.mem_univ, true_and, iff_true]
  have hi : (i 0 : ℕ) < 1024 := (i 0).isLt
  set r := (i 0 : ℕ) with hr
  obtain ⟨k, hk⟩ := org_surj c ⟨r / 256, by rw [Nat.div_lt_iff_lt_mul (by decide)]; exact hi⟩ (decide (128 ≤ r % 256))
  refine ⟨(decide (128 ≤ r % 256), k, ⟨r % 128 / 32, by omega⟩), ?_⟩
  simp only [segOf, segSet, mem_rowsSet, segRow, hk]
  by_cases h : 128 ≤ r % 256
  · simp only [h, decide_true, if_true]; omega
  · simp only [h, decide_false, Bool.false_eq_true, if_false]; omega

/-! ## The semaphores -/

/-- A transfer between devices: ring, hop, piece. -/
abbrev T : Type := Bool × Fin 3 × Fin 4

/-- The runtime's barrier semaphore. -/
abbrev barS : Sem sig := (SemArray.scalar (sig.barrier 0 rfl) : Sems sig S_).sem

set_option backward.proofsInPublic true in
def ewSem (j : Fin 4) : DmaSem sig := ⟨3 + j.val, by have := j.isLt; show 3 + j.val < 55; omega⟩
set_option backward.proofsInPublic true in
def sndSem (t : T) : DmaSem sig :=
  ⟨(if t.1 then 31 else 7) + 4 * t.2.1.val + t.2.2.val, by
    have := t.2.1.isLt; have := t.2.2.isLt; show _ < 55; split <;> omega⟩
set_option backward.proofsInPublic true in
def rcvSem (t : T) : DmaSem sig :=
  ⟨(if t.1 then 43 else 19) + 4 * t.2.1.val + t.2.2.val, by
    have := t.2.1.isLt; have := t.2.2.isLt; show _ < 55; split <;> omega⟩

/-- What a semaphore is for. -/
inductive Kd where
  | bar | ew (j : Fin 4) | snd (t : T) | rcv (t : T) | no
deriving DecidableEq

def kdDma (n : ℕ) : Kd :=
  if n < 3 then .no else if n < 7 then .ew (Fin.ofNat 4 (n - 3))
  else if n < 19 then .snd (false, Fin.ofNat 3 ((n - 7) / 4), Fin.ofNat 4 ((n - 7) % 4))
  else if n < 31 then .rcv (false, Fin.ofNat 3 ((n - 19) / 4), Fin.ofNat 4 ((n - 19) % 4))
  else if n < 43 then .snd (true, Fin.ofNat 3 ((n - 31) / 4), Fin.ofNat 4 ((n - 31) % 4))
  else .rcv (true, Fin.ofNat 3 ((n - 43) / 4), Fin.ofNat 4 ((n - 43) % 4))

def kd : SemLoc sig → Kd
  | .reg s => if s = barS then .bar else .no
  | .dma q => kdDma q.val

theorem kd_bar : kd (.reg barS) = .bar := by show (if barS = barS then Kd.bar else Kd.no) = Kd.bar; exact if_pos rfl
theorem kd_ew (j : Fin 4) : kd (.dma (ewSem j)) = .ew j := by revert j; decide
theorem kd_snd (t : T) : kd (.dma (sndSem t)) = .snd t := by revert t; decide
theorem kd_rcv (t : T) : kd (.dma (rcvSem t)) = .rcv t := by revert t; decide

abbrev barCell (c : Dev nD) : GSem nD τ sig := ((c : Thread nD τ), .reg barS)
abbrev ewCell (c : Dev nD) (j : Fin 4) : GSem nD τ sig := ((c : Thread nD τ), .dma (ewSem j))
abbrev sndCell (c : Dev nD) (t : T) : GSem nD τ sig := ((c : Thread nD τ), .dma (sndSem t))
abbrev rcvCell (c : Dev nD) (t : T) : GSem nD τ sig := ((c : Thread nD τ), .dma (rcvSem t))

/-- The kernel's own semaphores: the four of the local copies, the sends', the receives'. -/
abbrev OIx : Type := Fin 4 ⊕ (T ⊕ T)
def osem : OIx → SemLoc sig
  | .inl j => .dma (ewSem j)
  | .inr (.inl t) => .dma (sndSem t)
  | .inr (.inr t) => .dma (rcvSem t)
/-- All the semaphores of the protocol: the barrier's and the kernel's own. -/
abbrev CIx : Type := Unit ⊕ OIx
instance : DecidableEq OIx := inferInstance
instance : DecidableEq CIx := instDecidableEqSum
def csem : CIx → SemLoc sig
  | .inl _ => .reg barS
  | .inr k => osem k
abbrev kcell (ck : Dev nD × CIx) : GSem nD τ sig := ((ck.1 : Thread nD τ), csem ck.2)

def ckd : CIx → Kd
  | .inl _ => .bar
  | .inr (.inl j) => .ew j
  | .inr (.inr (.inl t)) => .snd t
  | .inr (.inr (.inr t)) => .rcv t

theorem kd_csem (k : CIx) : kd (csem k) = ckd k := by
  match k with
  | .inl _ => exact kd_bar
  | .inr (.inl j) => exact kd_ew j
  | .inr (.inr (.inl t)) => exact kd_snd t
  | .inr (.inr (.inr t)) => exact kd_rcv t

theorem ckd_inj : Function.Injective ckd := by
  rintro (_ | (j | (t | t))) (_ | (j' | (t' | t'))) h <;> simp only [ckd, Kd.ew.injEq, Kd.snd.injEq, Kd.rcv.injEq, reduceCtorEq] at h <;> first | rfl | rw [h]

theorem csem_inj : Function.Injective csem := fun k k' h => ckd_inj (by rw [← kd_csem, ← kd_csem, h])
theorem kcell_inj : Function.Injective kcell := fun a b h => by
  have h1 : a.1 = b.1 := congrArg (fun g : GSem nD τ sig => g.1.1) h
  have h2 : csem a.2 = csem b.2 := congrArg (fun g : GSem nD τ sig => g.2) h
  exact Prod.ext h1 (csem_inj h2)

end Cert.Moe

end
-- ==== Proof.Schedule.lean ====
/-
# What the protocol moves

The contents every transfer carries, and the one round of each semaphore: who pays it, how much, with which rows.
-/
module

public import proofs.«01_k».proof.Proof.Geometry

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's copy of the rounds and the protocol's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers and views -/

abbrev gM : Memref sig .tc .vmem S1024x1 .f32 := Memref.whole cc0_scratch0
abbrev yM : Memref sig .tc .vmem S1024x1024 .bf16 := Memref.whole cc0_scratch1
abbrev sM : Memref sig .tc .vmem S256x1024 .bf16 := Memref.whole cc0_scratch2
abbrev eM : Memref sig .tc .vmem S4x512x1024 .f32 := Memref.whole cc0_scratch3
abbrev hM : Memref sig .tc .hbm S4x512x1024 .f32 := Memref.whole main_arg3

/-- Expert `j` of a device's four. -/
def ewSet (j : Fin 4) : Finset S4x512x1024.Idx := Finset.univ.filter fun i => (i 0 : ℕ) = j.val

theorem inb_ew (j : Fin 4) : ∀ a, (![j.val, 0, 0] : Fin 3 → ℕ) a + S1x512x1024.size a ≤ S4x512x1024.size a := by revert j; decide

abbrev ewRect (j : Fin 4) : Rect S4x512x1024 := Rect.unit (s := S4x512x1024) ![j.val, 0, 0] S1x512x1024.size (inb_ew j)

theorem ewRect_set (j : Fin 4) {inb} : (Rect.unit (s := S4x512x1024) ![j.val, 0, 0] S1x512x1024.size inb).set = ewSet j := by
  ext i
  rw [Rect.mem_set_unit]
  simp only [ewSet, Finset.mem_filter, Finset.mem_univ, true_and]
  have h1 : (i 1 : ℕ) < 512 := (i 1).isLt
  have h2 : (i 2 : ℕ) < 1024 := (i 2).isLt
  constructor
  · intro h
    have h0 : j.val ≤ (i 0 : ℕ) ∧ (i 0 : ℕ) < j.val + 1 := h 0
    omega
  · intro h b
    match b with
    | ⟨0, _⟩ => exact ⟨by show j.val ≤ (i 0 : ℕ); omega, by show (i 0 : ℕ) < j.val + 1; omega⟩
    | ⟨1, _⟩ => exact ⟨Nat.zero_le _, by show (i 1 : ℕ) < 0 + 512; omega⟩
    | ⟨2, _⟩ => exact ⟨Nat.zero_le _, by show (i 2 : ℕ) < 0 + 1024; omega⟩

theorem ew_disj : ((Finset.univ : Finset (Fin 4)) : Set (Fin 4)).PairwiseDisjoint ewSet := by
  intro j _ j' _ hne
  refine Finset.disjoint_left.2 fun i h h' => hne ?_
  simp only [ewSet, Finset.mem_filter, Finset.mem_univ, true_and] at h h'
  exact Fin.ext (by omega)

theorem ew_cover : (Finset.univ : Finset (Fin 4)).biUnion ewSet = (Finset.univ : Finset S4x512x1024.Idx) := by
  ext i
  simp only [Finset.mem_biUnion, Finset.mem_univ, true_and, iff_true]
  exact ⟨⟨(i 0 : ℕ), (i 0).isLt⟩, by simp only [ewSet, Finset.mem_filter, Finset.mem_univ, true_and]⟩

/-- The credit of one segment's transfer, and of one expert's copy. -/
def N : ℕ := (yM.slice (Rect.unit (s := S1024x1024) (k0_off2 0 0#32 0#32) S32x1024.size (k0_off2_inb 0 0 0)) (fun _ => rfl)).view.dmaCredit
def NE : ℕ := ((eM.slice (Rect.unit (s := S4x512x1024) ![0, 0, 0] S1x512x1024.size inb_S4x512x1024_S1x512x1024_0_0_0) (fun _ => rfl)).squeeze S512x1024 squeezes_S1x512x1024_S512x1024).view.dmaCredit
theorem N_pos : 0 < N := View.dmaCredit_pos _ (by decide)
theorem NE_pos : 0 < NE := View.dmaCredit_pos _ (by decide)

/-! ## The contents -/

/-- The tokens as staged, and their routes. -/
def xv (d : Dev nD) : Vec F S1024x512 .f32 := m ((d : Thread nD τ).loc main_arg0)
def rv (d : Dev nD) : Vec F S1024x1 .i32 := m ((d : Thread nD τ).loc main_arg2)
/-- A device's four experts. -/
def ev (d : Dev nD) : (cc0_scratch3 : Ref sig .tc).ty.Contents (Elt F) := m ((d : Thread nD τ).loc main_arg3)

/-- A device's number as the kernel computes it. -/
def v2w (d : Dev nD) : BitVec 32 := Scalar.remsi (Scalar.divsi (Dev.word d) 1#32) 4#32
def r55 (d : Dev nD) : IVec S1024x1 32 := k0_pay2 (F := F) (rv m d)
def b4 (d : Dev nD) : BitVec 32 := Scalar.muli (v2w d) 4#32
def c51 : F .f32 := Scalar.ofBits .f32 0x424C0000#32

/-- The tokens gathered into a device's 4 · 64 slots. -/
def Xc (d : Dev nD) : FVec F S256x512 .f32 :=
  k0_pay6 (k0_pay4 (F := F) (r55 m d) (b4 d)) (k0_pay5 (F := F) (r55 m d) (b4 d)) c51 (xv m d)

/-- Expert `j` read out of the experts. -/
def ewv (d : Dev nD) (j : Fin 4) : Vec F S1x512x1024 .f32 := eM.view.readAt (Elt F) (ewRect j).toLoadRect (ev m d)

/-- Local expert `j`'s 64 rows. -/
def chunk (d : Dev nD) (j : Fin 4) : FVec F S64x1024 .bf16 :=
  match j with
  | 0 => k0_pay8 (k0_pay7 (k0_pay4 (F := F) (r55 m d) (b4 d)) (k0_pay5 (F := F) (r55 m d) (b4 d)) c51 (xv m d)) (ewv m d 0)
  | 1 => k0_pay10 (k0_pay9 (Xc m d) (ewv m d 1))
  | 2 => k0_pay11 (Xc m d) (ewv m d 2)
  | 3 => k0_pay12 (Xc m d) (ewv m d 3)

/-- The gathered table: row `256 d + 64 j + a` is row `a` of device `d`'s expert `j`. -/
def YA : (cc0_scratch1 : Ref sig .tc).ty.Contents (Elt F) := fun (i : S1024x1024.Idx) =>
  have h : (i 0 : ℕ) < 1024 := (i 0).isLt
  chunk m ⟨(i 0 : ℕ) / 256, by rw [Nat.div_lt_iff_lt_mul (by decide)]; exact h⟩ ⟨(i 0 : ℕ) % 256 / 64, by omega⟩
    (fun a : Fin 2 => match a with
      | ⟨0, _⟩ => (⟨(i 0 : ℕ) % 64, Nat.mod_lt _ (by decide)⟩ : Fin 64)
      | ⟨1, _⟩ => (i 1 : Fin 1024))

/-- The global slots of all tokens, the selection of a device's own tokens, and its result. -/
def gslv (d : Dev nD) : FVec F S1024x1 .f32 :=
  k0_pay22 (r55 m d) (k0_pay17 (k0_pay13 (r55 m d)) (k0_pay14 (r55 m d)))
    (k0_pay18 (k0_pay13 (r55 m d)) (k0_pay14 (r55 m d))) (k0_pay19 (r55 m d)) 4#32
    (k0_pay20 (r55 m d)) (k0_pay21 (r55 m d))
def selv (d : Dev nD) : FVec F S256x1024 .bf16 :=
  k0_pay24 (k0_pay23 (gM.view.readAt (Elt F) (Rect.unit (s := S1024x1) (k0_off4 d) S256x1.size (k0_off4_inb d)).toLoadRect (gslv m d)))
def outv (d : Dev nD) : FVec F S256x1024 .f32 := k0_pay1 (selv m d) (YA m)

/-! ## The resources -/

/-- A segment of device `c`'s table at contents `f`. -/
def segPts (c o : Dev nD) (L : Bool) (g : Fin 4) (f : Buf (Elt F) ((c : Thread nD τ).loc cc0_scratch1)) : sProp 𝕄 :=
  ((c : Thread nD τ).loc cc0_scratch1) ↦[segSet o L g]{fullShare} f
/-- Expert `j` in the kernel's own buffer, and in the argument. -/
def ewPts (c : Dev nD) (j : Fin 4) (f : Buf (Elt F) ((c : Thread nD τ).loc cc0_scratch3)) : sProp 𝕄 :=
  ((c : Thread nD τ).loc cc0_scratch3) ↦[ewSet j]{fullShare} f
def hbPts (c : Dev nD) (j : Fin 4) : sProp 𝕄 :=
  ((c : Thread nD τ).loc main_arg3) ↦[ewSet j]{fullShare} (ev m c)

omit [FloatOps F] in
instance segPts_storable (c o : Dev nD) (L g f) : BI.Storable (upEmb : UEmb _ 𝕄) (segPts (F := F) c o L g f) := by unfold segPts; infer_instance
omit [FloatOps F] in
instance ewPts_storable (c : Dev nD) (j f) : BI.Storable (upEmb : UEmb _ 𝕄) (ewPts (F := F) c j f) := by unfold ewPts; infer_instance
instance hbPts_storable (c : Dev nD) (j) : BI.Storable (upEmb : UEmb _ 𝕄) (hbPts (F := F) m c j) := by unfold hbPts; infer_instance

/-- What `tgt c L`'s signal hands `c`: the rows `c`'s transfers along ring `L` will fill there. -/
def barPay (c : Dev nD) (L : Bool) : sProp 𝕄 :=
  bigSep Finset.univ fun hg : Fin 3 × Fin 4 => iprop(∃ f, segPts (tgt c L) (org c L hg.1.castSucc) L hg.2 f)
/-- A send gives the sent rows back; a receive gives the received ones; a local copy gives both ends. -/
def sndPay (c : Dev nD) (t : T) : sProp 𝕄 := segPts c (org c t.1 t.2.1.castSucc) t.1 t.2.2 (YA m)
def rcvPay (c : Dev nD) (t : T) : sProp 𝕄 := segPts c (org c t.1 t.2.1.succ) t.1 t.2.2 (YA m)
def ewPay (c : Dev nD) (j : Fin 4) : sProp 𝕄 := iprop(ewPts c j (ev m c) ∗ hbPts m c j)

omit [FloatOps F] in
instance barPay_storable (c : Dev nD) (L) : BI.Storable (upEmb : UEmb _ 𝕄) (barPay (F := F) c L) := by unfold barPay; infer_instance
instance sndPay_storable (c : Dev nD) (t) : BI.Storable (upEmb : UEmb _ 𝕄) (sndPay (F := F) m c t) := by unfold sndPay; infer_instance
instance rcvPay_storable (c : Dev nD) (t) : BI.Storable (upEmb : UEmb _ 𝕄) (rcvPay (F := F) m c t) := by unfold rcvPay; infer_instance
instance ewPay_storable (c : Dev nD) (j) : BI.Storable (upEmb : UEmb _ 𝕄) (ewPay (F := F) m c j) := by unfold ewPay; infer_instance

/-! ## The schedule -/

def kdDuties : Kd → Finset Bool
  | .bar => Finset.univ
  | .no => ∅
  | _ => {false}
def kdAmount : Kd → ℕ
  | .bar => 1
  | .ew _ => NE
  | _ => N
def kdPay (c : Dev nD) (d : Bool) : Kd → sProp 𝕄
  | .bar => barPay c d
  | .ew j => ewPay m c j
  | .snd t => sndPay m c t
  | .rcv t => rcvPay m c t
  | .no => iprop(emp)

instance kdPay_storable (c : Dev nD) (d : Bool) (k : Kd) : BI.Storable (upEmb : UEmb _ 𝕄) (kdPay (F := F) m c d k) := by
  cases k <;> simp only [kdPay] <;> infer_instance

/-- One round: the barrier's two units, one from each neighbour; every transfer's credit. -/
def rd : Rounds.Schedule (GSem nD τ sig) Bool 𝕄 where
  duties g r := if r = 0 ∧ g.1.2 = .tc then kdDuties (kd g.2) else ∅
  unitless _ := False
  amount g _ _ := kdAmount (kd g.2)
  payload g _ d := kdPay m g.1.1 d (kd g.2)
  amount_pos g _ _ _ := by
    cases kd g.2
    · exact Nat.one_pos
    · exact NE_pos
    all_goals exact N_pos

instance rd_payload_storable (g : GSem nD τ sig) (r : ℕ) (d : Bool) : BI.Storable (upEmb : UEmb _ 𝕄) ((rd (F := F) m).payload g r d) := by
  show BI.Storable upEmb (kdPay m g.1.1 d (kd g.2)); infer_instance

section Tables
variable (c : Dev nD)

theorem duties_at (s : SemLoc sig) : (rd (F := F) m).duties ((c : Thread nD τ), s) 0 = kdDuties (kd s) := by dsimp only [rd]; exact if_pos ⟨rfl, rfl⟩
theorem duties_later (g : GSem nD τ sig) : ∀ r, 1 ≤ r → (rd (F := F) m).duties g r = ∅ :=
  fun r hr => by dsimp only [rd]; rw [if_neg fun h => by omega]

theorem duties_bar (d : Bool) : d ∈ (rd (F := F) m).duties (barCell c) 0 := by rw [duties_at, kd_bar]; exact Finset.mem_univ d
theorem duties_ew (j : Fin 4) : (rd (F := F) m).duties (ewCell c j) 0 = {false} := by rw [duties_at, kd_ew]; rfl
theorem duties_snd (t : T) : (rd (F := F) m).duties (sndCell c t) 0 = {false} := by rw [duties_at, kd_snd]; rfl
theorem duties_rcv (t : T) : (rd (F := F) m).duties (rcvCell c t) 0 = {false} := by rw [duties_at, kd_rcv]; rfl

theorem amount_bar (d : Bool) : (rd (F := F) m).amount (barCell c) 0 d = 1 := by show kdAmount (kd (.reg barS)) = 1; rw [kd_bar]; rfl
theorem amount_ew (j : Fin 4) (d : Bool) : (rd (F := F) m).amount (ewCell c j) 0 d = NE := by show kdAmount (kd (.dma (ewSem j))) = NE; rw [kd_ew]; rfl
theorem amount_snd (t : T) (d : Bool) : (rd (F := F) m).amount (sndCell c t) 0 d = N := by show kdAmount (kd (.dma (sndSem t))) = N; rw [kd_snd]; rfl
theorem amount_rcv (t : T) (d : Bool) : (rd (F := F) m).amount (rcvCell c t) 0 d = N := by show kdAmount (kd (.dma (rcvSem t))) = N; rw [kd_rcv]; rfl

theorem payload_bar (d : Bool) : (rd (F := F) m).payload (barCell c) 0 d = barPay c d := by show kdPay m c d (kd (.reg barS)) = _; rw [kd_bar]; rfl
theorem payload_ew (j : Fin 4) (d : Bool) : (rd (F := F) m).payload (ewCell c j) 0 d = ewPay m c j := by show kdPay m c d (kd (.dma (ewSem j))) = _; rw [kd_ew]; rfl
theorem payload_snd (t : T) (d : Bool) : (rd (F := F) m).payload (sndCell c t) 0 d = sndPay m c t := by show kdPay m c d (kd (.dma (sndSem t))) = _; rw [kd_snd]; rfl
theorem payload_rcv (t : T) (d : Bool) : (rd (F := F) m).payload (rcvCell c t) 0 d = rcvPay m c t := by show kdPay m c d (kd (.dma (rcvSem t))) = _; rw [kd_rcv]; rfl

theorem expect_bar : (rd (F := F) m).expect (barCell c) 0 = 2 := by
  unfold Schedule.expect Schedule.amountOf
  rw [show (rd (F := F) m).duties (barCell c) 0 = Finset.univ by rw [duties_at, kd_bar]; rfl,
    Finset.sum_congr rfl fun d _ => amount_bar m c d, Finset.sum_const, Finset.card_univ, Fintype.card_bool, smul_eq_mul]
theorem expect_ew (j : Fin 4) : (rd (F := F) m).expect (ewCell c j) 0 = NE := by
  unfold Schedule.expect Schedule.amountOf; rw [duties_ew, Finset.sum_singleton, amount_ew]
theorem expect_snd (t : T) : (rd (F := F) m).expect (sndCell c t) 0 = N := by
  unfold Schedule.expect Schedule.amountOf; rw [duties_snd, Finset.sum_singleton, amount_snd]
theorem expect_rcv (t : T) : (rd (F := F) m).expect (rcvCell c t) 0 = N := by
  unfold Schedule.expect Schedule.amountOf; rw [duties_rcv, Finset.sum_singleton, amount_rcv]

theorem rest_bar : bigSep ((rd (F := F) m).duties (barCell c) 0 \ ∅) (fun d => (rd (F := F) m).payload (barCell c) 0 d)
    = bigSep Finset.univ fun L : Bool => barPay (F := F) c L := by
  rw [Finset.sdiff_empty, show (rd (F := F) m).duties (barCell c) 0 = Finset.univ by rw [duties_at, kd_bar]; rfl]
  exact bigSep_congr fun d _ => payload_bar m c d
theorem rest_ew (j : Fin 4) : bigSep ((rd (F := F) m).duties (ewCell c j) 0 \ ∅) (fun d => (rd (F := F) m).payload (ewCell c j) 0 d) = ewPay m c j := by
  rw [Finset.sdiff_empty, duties_ew, bigSep_singleton, payload_ew]
theorem rest_snd (t : T) : bigSep ((rd (F := F) m).duties (sndCell c t) 0 \ ∅) (fun d => (rd (F := F) m).payload (sndCell c t) 0 d) = sndPay m c t := by
  rw [Finset.sdiff_empty, duties_snd, bigSep_singleton, payload_snd]
theorem rest_rcv (t : T) : bigSep ((rd (F := F) m).duties (rcvCell c t) 0 \ ∅) (fun d => (rd (F := F) m).payload (rcvCell c t) 0 d) = rcvPay m c t := by
  rw [Finset.sdiff_empty, duties_rcv, bigSep_singleton, payload_rcv]

end Tables

/-! ## What a device owes; the levels -/

/-- The transfers in the order they start. -/
def order : List T :=
  [(false, 0, 0), (false, 0, 1), (false, 0, 2), (false, 0, 3), (true, 0, 0), (true, 0, 1), (true, 0, 2), (true, 0, 3),
   (false, 1, 0), (true, 1, 0), (false, 1, 1), (true, 1, 1), (false, 1, 2), (true, 1, 2), (false, 1, 3), (true, 1, 3),
   (false, 2, 0), (true, 2, 0), (false, 2, 1), (true, 2, 1), (false, 2, 2), (true, 2, 2), (false, 2, 3), (true, 2, 3)]

/-- What `c` owes while the transfers `l` have not started: their credit on the targets' receive semaphores. -/
def owedL (c : Dev nD) : List T → CellTallies nD τ sig Unit
  | [] => 0
  | t :: l => owedL c l + tallyAt (rcvCell (tgt c t.1) t) () N
/-- At launch `c` owes each neighbour one barrier unit besides. -/
def O₁ (c : Dev nD) : CellTallies nD τ sig Unit := owedL c order + tallyAt (barCell (nxt c)) () 1
def O₀ (c : Dev nD) : CellTallies nD τ sig Unit := O₁ c + tallyAt (barCell (prv c)) () 1

def Lx (g : GSem nD τ sig) : Finset Unit := if g.1.2 = .tc then {()} else ∅
def kdLv : Kd → ℕ
  | .bar => 1
  | .rcv t => 2 + t.2.1.val
  | _ => 0
/-- The receives of later hops above those of earlier ones, all above the barrier. -/
def lv (g : GSem nD τ sig) (_ : Unit) : ℕ := kdLv (kd g.2)

theorem Lx_of_ne (g : GSem nD τ sig) (h : g.1.2 ≠ .tc) : Lx g = ∅ := if_neg h
theorem Lx_tc (c : Dev nD) (sm : SemLoc sig) : Lx ((c : Thread nD τ), sm) = {()} := if_pos rfl

theorem lv_bar (c : Dev nD) (u : Unit) : lv (barCell c) u = 1 := by show kdLv (kd (.reg barS)) = 1; rw [kd_bar]; rfl
theorem lv_rcv (c : Dev nD) (t : T) (u : Unit) : lv (rcvCell c t) u = 2 + t.2.1.val := by show kdLv (kd (.dma (rcvSem t))) = _; rw [kd_rcv]; rfl
theorem lv_snd (c : Dev nD) (t : T) (u : Unit) : lv (sndCell c t) u = 0 := by show kdLv (kd (.dma (sndSem t))) = _; rw [kd_snd]; rfl
theorem lv_ew (c : Dev nD) (j : Fin 4) (u : Unit) : lv (ewCell c j) u = 0 := by show kdLv (kd (.dma (ewSem j))) = _; rw [kd_ew]; rfl

theorem owedL_pos {c : Dev nD} {l : List T} {g : GSem nD τ sig} {u : Unit} (h : 0 < owedL c l g u) :
    ∃ t ∈ l, g = rcvCell (tgt c t.1) t := by
  induction l with
  | nil => exact absurd h (Nat.lt_irrefl 0)
  | cons t l ih =>
    unfold owedL at h
    rw [Pi.add_apply, Finsupp.add_apply, tallyAt_apply] at h
    by_cases hg : g = rcvCell (tgt c t.1) t
    · exact ⟨t, List.mem_cons_self, hg⟩
    · rw [if_neg (fun h' => hg h'.1), Nat.add_zero] at h
      obtain ⟨t', ht', e⟩ := ih h
      exact ⟨t', List.mem_cons_of_mem _ ht', e⟩

theorem O₀_pos {c : Dev nD} {g : GSem nD τ sig} {u : Unit} (h : 0 < O₀ c g u) :
    (∃ t ∈ order, g = rcvCell (tgt c t.1) t) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (owedL_pos h)

/-- A device may wait on a semaphore of level `n` while the transfers it owes are all of higher level. -/
theorem mayWait_owed (c : Dev nD) (sm : SemLoc sig) (l : List T) (n : ℕ) (hn : kdLv (kd sm) ≤ n) (hl : ∀ t ∈ l, n < 2 + t.2.1.val) :
    (levAts Lx lv : sProp 𝕄) ⊢ MayWait (c : Thread nD τ) sm () (owedL c l) :=
  MayOwe.of_cut (L := Lx) (lev := lv) n (fun p hp => by rw [Finset.mem_singleton.mp hp, Lx_tc]; exact Finset.mem_singleton_self _)
    (fun g u hg => by obtain ⟨t, -, rfl⟩ := owedL_pos hg; exact Finset.mem_singleton_self _)
    (fun p hp => by rw [Finset.mem_singleton.mp hp]; exact hn)
    (fun g u hg => by obtain ⟨t, ht, rfl⟩ := owedL_pos hg; rw [lv_rcv]; exact hl t ht)

/-- While staging, a device owes everything or nothing. -/
theorem mayWait_stage (c : Dev nD) (q : DmaSem sig) (hq : kd (.dma q) = .no) (O : CellTallies nD τ sig Unit) (hO : O = O₀ c ∨ O = 0) :
    (levAts Lx lv : sProp 𝕄) ⊢ MayWait (c : Thread nD τ) (.dma q) () O := by
  rcases hO with rfl | rfl
  · refine MayOwe.of_cut (L := Lx) (lev := lv) 0 (fun p hp => by rw [Finset.mem_singleton.mp hp, Lx_tc]; exact Finset.mem_singleton_self _)
      (fun g u hg => by rcases O₀_pos hg with ⟨t, -, rfl⟩ | rfl | rfl <;> exact Finset.mem_singleton_self _)
      (fun p hp => by rw [Finset.mem_singleton.mp hp]; show kdLv (kd (.dma q)) ≤ 0; rw [hq]; exact Nat.le_refl 0)
      (fun g u hg => by
        rcases O₀_pos hg with ⟨t, -, rfl⟩ | rfl | rfl
        · rw [lv_rcv]; omega
        · rw [lv_bar]; exact Nat.one_pos
        · rw [lv_bar]; exact Nat.one_pos)
  · rw [MayWait_zero]; iintro -; iempintro

end Cert.Moe

end
-- ==== Proof.State.lean ====
/-
# A device's state along the run, and one step for each kind of operation

Ring `L`'s piece `g` is a chain: send own rows, wait, receive the neighbour's, forward them, three hops in all. `Ch` is
a chain's state by the number of steps taken; `St` is a device's eight chains with what it still owes. Each operation of
the kernel's ring part is a step from one `St` to the next.
-/
module

public import proofs.«01_k».proof.Proof.Schedule

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The invariants -/

/-- Every cell's invariant, and that its round is open. -/
def records (K : Dev nD × CIx → ℕ) : sProp 𝕄 :=
  iprop((bigSep Finset.univ fun ck : Dev nD × CIx => cellInv ER (rd m) (K ck) (kcell ck))
    ∗ bigSep Finset.univ fun ck : Dev nD × CIx => reached ER (kcell ck) 0)

instance records_persistent (K : Dev nD × CIx → ℕ) : BI.Persistent (records (F := F) m K) := by unfold records; infer_instance

theorem inv_at (K : Dev nD × CIx → ℕ) (c : Dev nD) (k : CIx) : records (F := F) m K ⊢ cellInv ER (rd m) (K (c, k)) (kcell (c, k)) := by
  unfold records
  exact sep_elim_left.trans (bigSep_elim (Φ := fun ck : Dev nD × CIx => cellInv ER (rd m) (K ck) (kcell ck)) (Finset.mem_univ (c, k)))
theorem reached_at (K : Dev nD × CIx → ℕ) (c : Dev nD) (k : CIx) : records (F := F) m K ⊢ reached ER (kcell (c, k)) 0 := by
  unfold records
  exact sep_elim_right.trans (bigSep_elim (Φ := fun ck : Dev nD × CIx => reached ER (kcell ck) 0) (Finset.mem_univ (c, k)))

abbrev kBar : CIx := .inl ()
abbrev kEw (j : Fin 4) : CIx := .inr (.inl j)
abbrev kSnd (t : T) : CIx := .inr (.inr (.inl t))
abbrev kRcv (t : T) : CIx := .inr (.inr (.inr t))

/-! ## The chains -/

section Chain
variable (c : Dev nD)

/-- Rows in place. -/
def sg (L : Bool) (g : Fin 4) (k : Fin 4) : sProp 𝕄 := segPts c (org c L k) L g (YA m)
/-- A transfer's tokens before it starts, with and without the target's rows. -/
def tk (t : T) : sProp 𝕄 :=
  iprop(dutyTok ER (sndCell c t) 0 false ∗ dutyTok ER (rcvCell (tgt c t.1) t) 0 false ∗ cred (tallyAt (rcvCell c t) () N)
    ∗ atPos ER (sndCell c t) 0 ∅ 0 ∗ atPos ER (rcvCell c t) 0 ∅ 0)
def ds (t : T) : sProp 𝕄 := iprop(∃ f, segPts (F := F) (tgt c t.1) (org c t.1 t.2.1.castSucc) t.1 t.2.2 f)
def un (t : T) : sProp 𝕄 := iprop(tk (F := F) c t ∗ ds (F := F) c t)
/-- In flight; sent; done. -/
def fl (t : T) : sProp 𝕄 :=
  iprop(cred (tallyAt (sndCell c t) () N) ∗ cred (tallyAt (rcvCell c t) () N) ∗ atPos ER (sndCell c t) 0 ∅ 0 ∗ atPos ER (rcvCell c t) 0 ∅ 0)
def ha (t : T) : sProp 𝕄 := iprop(semVal (sndCell c t) 0 ∗ cred (tallyAt (rcvCell c t) () N) ∗ atPos ER (rcvCell c t) 0 ∅ 0)
def dn (t : T) : sProp 𝕄 := iprop(semVal (sndCell c t) 0 ∗ semVal (rcvCell c t) 0)

/-- A chain's state: after `3 h` steps hop `h` is to start, then in flight, then sent; 10 before the first rows are
    written (12 while they are out to be written), 11 before the neighbour has handed its rows over. -/
def Ch (L : Bool) (g : Fin 4) : ℕ → sProp 𝕄
  | 0 => iprop((sg m c L g 0 ∗ un c (L, 0, g)) ∗ un c (L, 1, g) ∗ un c (L, 2, g))
  | 1 => iprop(fl c (L, 0, g) ∗ un c (L, 1, g) ∗ un c (L, 2, g))
  | 2 => iprop(ha c (L, 0, g) ∗ sg m c L g 0 ∗ un c (L, 1, g) ∗ un c (L, 2, g))
  | 3 => iprop((sg m c L g 1 ∗ un c (L, 1, g)) ∗ un c (L, 2, g) ∗ dn c (L, 0, g) ∗ sg m c L g 0)
  | 4 => iprop(fl c (L, 1, g) ∗ un c (L, 2, g) ∗ dn c (L, 0, g) ∗ sg m c L g 0)
  | 5 => iprop(ha c (L, 1, g) ∗ sg m c L g 1 ∗ un c (L, 2, g) ∗ dn c (L, 0, g) ∗ sg m c L g 0)
  | 6 => iprop((sg m c L g 2 ∗ un c (L, 2, g)) ∗ (dn c (L, 0, g) ∗ sg m c L g 0) ∗ dn c (L, 1, g) ∗ sg m c L g 1)
  | 7 => iprop(fl c (L, 2, g) ∗ (dn c (L, 0, g) ∗ sg m c L g 0) ∗ dn c (L, 1, g) ∗ sg m c L g 1)
  | 8 => iprop(ha c (L, 2, g) ∗ sg m c L g 2 ∗ (dn c (L, 0, g) ∗ sg m c L g 0) ∗ dn c (L, 1, g) ∗ sg m c L g 1)
  | 9 => iprop(sg m c L g 3 ∗ (dn c (L, 0, g) ∗ sg m c L g 0) ∗ (dn c (L, 1, g) ∗ sg m c L g 1) ∗ dn c (L, 2, g) ∗ sg m c L g 2)
  | 10 => iprop((∃ f, segPts (F := F) c c L g f) ∗ un c (L, 0, g) ∗ un c (L, 1, g) ∗ un c (L, 2, g))
  | 12 => iprop(un c (L, 0, g) ∗ un c (L, 1, g) ∗ un c (L, 2, g))
  | _ => iprop((∃ f, segPts (F := F) c c L g f) ∗ tk c (L, 0, g) ∗ tk c (L, 1, g) ∗ tk c (L, 2, g))

theorem ch_start (L : Bool) (h : Fin 3) (g : Fin 4) :
    Ch (F := F) m c L g (3 * h.val) ⊢ iprop((sg m c L g h.castSucc ∗ un c (L, h, g)) ∗ (fl c (L, h, g) -∗ Ch m c L g (3 * h.val + 1))) := by
  match h with
  | 0 =>
    show iprop((sg m c L g 0 ∗ un c (L, 0, g)) ∗ un c (L, 1, g) ∗ un c (L, 2, g)) ⊢
      iprop((sg m c L g 0 ∗ un c (L, 0, g)) ∗ (fl c (L, 0, g) -∗ (fl c (L, 0, g) ∗ un c (L, 1, g) ∗ un c (L, 2, g))))
    iintro ⟨H, HR⟩
    isplitl [H]; · iexact H
    iintro Hf
    isplitl [Hf]; · iexact Hf
    iexact HR
  | 1 =>
    show iprop((sg m c L g 1 ∗ un c (L, 1, g)) ∗ un c (L, 2, g) ∗ dn c (L, 0, g) ∗ sg m c L g 0) ⊢
      iprop((sg m c L g 1 ∗ un c (L, 1, g)) ∗ (fl c (L, 1, g) -∗ (fl c (L, 1, g) ∗ un c (L, 2, g) ∗ dn c (L, 0, g) ∗ sg m c L g 0)))
    iintro ⟨H, HR⟩
    isplitl [H]; · iexact H
    iintro Hf
    isplitl [Hf]; · iexact Hf
    iexact HR
  | 2 =>
    show iprop((sg m c L g 2 ∗ un c (L, 2, g)) ∗ (dn c (L, 0, g) ∗ sg m c L g 0) ∗ dn c (L, 1, g) ∗ sg m c L g 1) ⊢
      iprop((sg m c L g 2 ∗ un c (L, 2, g)) ∗ (fl c (L, 2, g) -∗ (fl c (L, 2, g) ∗ (dn c (L, 0, g) ∗ sg m c L g 0) ∗ dn c (L, 1, g) ∗ sg m c L g 1)))
    iintro ⟨H, HR⟩
    isplitl [H]; · iexact H
    iintro Hf
    isplitl [Hf]; · iexact Hf
    iexact HR

theorem ch_sent (L : Bool) (h : Fin 3) (g : Fin 4) :
    Ch (F := F) m c L g (3 * h.val + 1) ⊢ iprop(fl c (L, h, g) ∗ ((ha c (L, h, g) ∗ sg m c L g h.castSucc) -∗ Ch m c L g (3 * h.val + 2))) := by
  match h with
  | 0 =>
    show iprop(fl c (L, 0, g) ∗ un c (L, 1, g) ∗ un c (L, 2, g)) ⊢
      iprop(fl c (L, 0, g) ∗ ((ha c (L, 0, g) ∗ sg m c L g 0) -∗ (ha c (L, 0, g) ∗ sg m c L g 0 ∗ un c (L, 1, g) ∗ un c (L, 2, g))))
    iintro ⟨H, HR⟩
    isplitl [H]; · iexact H
    iintro ⟨Hf, Hs⟩
    isplitl [Hf]; · iexact Hf
    isplitl [Hs]; · iexact Hs
    iexact HR
  | 1 =>
    show iprop(fl c (L, 1, g) ∗ un c (L, 2, g) ∗ dn c (L, 0, g) ∗ sg m c L g 0) ⊢
      iprop(fl c (L, 1, g) ∗ ((ha c (L, 1, g) ∗ sg m c L g 1) -∗ (ha c (L, 1, g) ∗ sg m c L g 1 ∗ un c (L, 2, g) ∗ dn c (L, 0, g) ∗ sg m c L g 0)))
    iintro ⟨H, HR⟩
    isplitl [H]; · iexact H
    iintro ⟨Hf, Hs⟩
    isplitl [Hf]; · iexact Hf
    isplitl [Hs]; · iexact Hs
    iexact HR
  | 2 =>
    show iprop(fl c (L, 2, g) ∗ (dn c (L, 0, g) ∗ sg m c L g 0) ∗ dn c (L, 1, g) ∗ sg m c L g 1) ⊢
      iprop(fl c (L, 2, g) ∗ ((ha c (L, 2, g) ∗ sg m c L g 2) -∗ (ha c (L, 2, g) ∗ sg m c L g 2 ∗ (dn c (L, 0, g) ∗ sg m c L g 0) ∗ dn c (L, 1, g) ∗ sg m c L g 1)))
    iintro ⟨H, HR⟩
    isplitl [H]; · iexact H
    iintro ⟨Hf, Hs⟩
    isplitl [Hf]; · iexact Hf
    isplitl [Hs]; · iexact Hs
    iexact HR

theorem ch_rcvd (L : Bool) (h : Fin 3) (g : Fin 4) :
    Ch (F := F) m c L g (3 * h.val + 2) ⊢ iprop(ha c (L, h, g) ∗ ((dn c (L, h, g) ∗ sg m c L g h.succ) -∗ Ch m c L g (3 * h.val + 3))) := by
  match h with
  | 0 =>
    show iprop(ha c (L, 0, g) ∗ sg m c L g 0 ∗ un c (L, 1, g) ∗ un c (L, 2, g)) ⊢
      iprop(ha c (L, 0, g) ∗ ((dn c (L, 0, g) ∗ sg m c L g 1) -∗ ((sg m c L g 1 ∗ un c (L, 1, g)) ∗ un c (L, 2, g) ∗ dn c (L, 0, g) ∗ sg m c L g 0)))
    iintro ⟨H, H0, H1, H2⟩
    isplitl [H]; · iexact H
    iintro ⟨Hf, Hs⟩
    isplitl [Hs H1]
    · isplitl [Hs]; · iexact Hs
      iexact H1
    isplitl [H2]; · iexact H2
    isplitl [Hf]; · iexact Hf
    iexact H0
  | 1 =>
    show iprop(ha c (L, 1, g) ∗ sg m c L g 1 ∗ un c (L, 2, g) ∗ dn c (L, 0, g) ∗ sg m c L g 0) ⊢
      iprop(ha c (L, 1, g) ∗ ((dn c (L, 1, g) ∗ sg m c L g 2) -∗ ((sg m c L g 2 ∗ un c (L, 2, g)) ∗ (dn c (L, 0, g) ∗ sg m c L g 0) ∗ dn c (L, 1, g) ∗ sg m c L g 1)))
    iintro ⟨H, H0, H2, HR⟩
    isplitl [H]; · iexact H
    iintro ⟨Hf, Hs⟩
    isplitl [Hs H2]
    · isplitl [Hs]; · iexact Hs
      iexact H2
    isplitl [HR]; · iexact HR
    isplitl [Hf]; · iexact Hf
    iexact H0
  | 2 =>
    show iprop(ha c (L, 2, g) ∗ sg m c L g 2 ∗ (dn c (L, 0, g) ∗ sg m c L g 0) ∗ dn c (L, 1, g) ∗ sg m c L g 1) ⊢
      iprop(ha c (L, 2, g) ∗ ((dn c (L, 2, g) ∗ sg m c L g 3) -∗ (sg m c L g 3 ∗ (dn c (L, 0, g) ∗ sg m c L g 0) ∗ (dn c (L, 1, g) ∗ sg m c L g 1) ∗ dn c (L, 2, g) ∗ sg m c L g 2)))
    iintro ⟨H, H2, HR, HT⟩
    isplitl [H]; · iexact H
    iintro ⟨Hf, Hs⟩
    isplitl [Hs]; · iexact Hs
    isplitl [HR]; · iexact HR
    isplitl [HT]; · iexact HT
    isplitl [Hf]; · iexact Hf
    iexact H2

end Chain

/-! ## A device's state -/

/-- The eight chains, by ring and piece. -/
abbrev Q : Type := Bool × Fin 4
/-- The chains' phases from a list: the right ring's four, then the left ring's. -/
def phv (l : List ℕ) (q : Q) : ℕ := l.getD ((if q.1 then 4 else 0) + q.2.val) 0
def Chs (c : Dev nD) (ph : Q → ℕ) : sProp 𝕄 := bigSep Finset.univ fun q : Q => Ch m c q.1 q.2 (ph q)
def Ow (c : Dev nD) (l : List T) : sProp 𝕄 := iprop(∃ W : Waits sig Unit, owes (c : Thread nD τ) (owedL c l) W)

/-- The invariants, the levels, the chains, the transfers still owed. -/
def St (K : Dev nD × CIx → ℕ) (c : Dev nD) (ph : Q → ℕ) (l : List T) : sProp 𝕄 :=
  iprop(records m K ∗ levAts Lx lv ∗ Chs m c ph ∗ Ow c l)

theorem chs_step (c : Dev nD) (ph ph' : Q → ℕ) (q : Q) (n n' : ℕ) (h1 : ph q = n) (h2 : ph' q = n') (h3 : ∀ q', q' ≠ q → ph' q' = ph q') :
    Chs (F := F) m c ph ⊢ iprop(Ch m c q.1 q.2 n ∗ (Ch m c q.1 q.2 n' -∗ Chs m c ph')) := by
  subst h1 h2
  unfold Chs
  exact bigSep_univ_update (Φ := fun q : Q => Ch m c q.1 q.2 (ph q)) (Ψ := fun q : Q => Ch m c q.1 q.2 (ph' q)) q (fun q' hq => by rw [h3 q' hq])

/-! ## The steps -/

section Steps
variable (K : Dev nD × CIx → ℕ)

theorem seg_view {off : Fin 2 → ℕ} {inb hr} (o : Dev nD) (L : Bool) (g : Fin 4) (h : off = ![segRow o L g, 0]) :
    ((yM.slice (Rect.unit (s := S1024x1024) off S32x1024.size inb) hr).view.set : Finset S1024x1024.Idx) = segSet o L g :=
  (View.set_slice_whole cc0_scratch1 _).trans (rect_set h rfl)

/-- Rows copied onto themselves read the same. -/
theorem landed_eq {s : Shape} {e : EltTy} {sp : Space} (v : View sig .tc sp s e) (f g : v.ty.Contents (Elt F)) :
    ∀ i ∈ v.set, v.write (Elt F) f (v.read (Elt F) g) Finset.univ i = g i := fun i hi => by
  rw [View.write_read_eq_piecewise, View.setOn_univ]
  exact Finset.piecewise_eq_of_mem _ _ _ hi

/-- Start hop `h` of a chain: the target's receive semaphore is paid in advance of the landing. -/
theorem st_send (c n : Dev nD) (L : Bool) (h : Fin 3) (g : Fin 4) (ph ph' : Q → ℕ) (l₀ l : List T)
    {off : Fin 2 → ℕ} {inb : ∀ a, off a + S32x1024.size a ≤ S1024x1024.size a} {hr hr'} {sS sR : DmaSem sig}
    {hsc : (yM.slice (Rect.unit (s := S1024x1024) off S32x1024.size inb) hr').view.ref.isScScratch = false}
    {hsrc : (yM.slice (Rect.unit (s := S1024x1024) off S32x1024.size inb) hr).view.WordExact}
    {hdst : (yM.slice (Rect.unit (s := S1024x1024) off S32x1024.size inb) hr').view.WordExact}
    {hsem : DmaTarget.Typed .vmem (.dma sR) (.remote (Dev.tc n : Thread nD τ) (yM.slice (Rect.unit (s := S1024x1024) off S32x1024.size inb) hr' : Memref sig .tc .vmem S32x1024 .bf16) (.dma sS) hsc)}
    {α : Type} {Q' : α → sProp 𝕄} {k : PUnit → Prog (TpuEff nD τ sig (Elt F) Λ₀ .tc) α}
    (hn : n = tgt c L) (hoff : off = ![segRow (org c L h.castSucc) L g, 0]) (hsS : sS = sndSem (L, h, g)) (hsR : sR = rcvSem (L, h, g))
    (hl : l₀ = (L, h, g) :: l) (h1 : ph (L, g) = 3 * h.val) (h2 : ph' (L, g) = 3 * h.val + 1) (h3 : ∀ q', q' ≠ (L, g) → ph' q' = ph q') :
    St m K c ph l₀
      ⊢ iprop((St m K c ph' l -∗ wp frame (wpE (defs₀ (F := F)) 𝒱₀ (c : Thread nD τ) none) Set.univ (k ⟨⟩) Q')
          -∗ wp frame (wpE (defs₀ (F := F)) 𝒱₀ (c : Thread nD τ) none) Set.univ
              (.op (.enqueueDma (yM.slice (Rect.unit (s := S1024x1024) off S32x1024.size inb) hr : Memref sig .tc .vmem S32x1024 .bf16)
                (.remote (Dev.tc n : Thread nD τ) (yM.slice (Rect.unit (s := S1024x1024) off S32x1024.size inb) hr' : Memref sig .tc .vmem S32x1024 .bf16) (.dma sS) hsc) (.dma sR) hsrc hdst hsem) k) Q') := by
  subst hn hsS hsR hl
  unfold St
  iintro ⟨#HR, #HL, HC, HO⟩ Hk
  ihave HC := (chs_step m c ph ph' (L, g) _ _ h1 h2 h3) $$ HC
  icases HC with ⟨HC, Hback⟩
  ihave HC := (ch_start m c L h g) $$ HC
  icases HC with ⟨⟨Hs, Hu⟩, Hback'⟩
  unfold un tk ds
  icases Hu with ⟨⟨Hd1, Hd2, Hcr, Ha1, Ha2⟩, ⟨%fd, Hdst⟩⟩
  unfold Ow
  icases HO with ⟨%W, HO⟩
  have hview := seg_view (inb := inb) (hr := hr) (org c L h.castSucc) L g hoff
  iapply (Rounds.wp_send_pointsTo 𝒱₀ ER (rd m) (c : Thread nD τ) none (c' := (tgt c L : Thread nD τ))
    (src := (yM.slice (Rect.unit (s := S1024x1024) off S32x1024.size inb) hr : Memref sig .tc .vmem S32x1024 .bf16))
    (dst := (yM.slice (Rect.unit (s := S1024x1024) off S32x1024.size inb) hr' : Memref sig .tc .vmem S32x1024 .bf16))
    (q := fullShare) (fs := YA m) (fd := fd) (sS := .dma (sndSem (L, h, g))) (sem := .dma (rcvSem (L, h, g)))
    (κ₁ := K (c, kSnd (L, h, g))) (κ₂ := K (tgt c L, kRcv (L, h, g)))
    (r₁ := 0) (r₂ := 0) (d₁ := false) (d₂ := false)
    (by rw [duties_snd]; exact Finset.mem_singleton_self _) (by rw [duties_rcv]; exact Finset.mem_singleton_self _)
    () () N rfl (amount_snd m c _ false) (amount_rcv m (tgt c L) _ false) (owedL c l) rfl (W := W)
    (by rw [payload_snd]; unfold sndPay segPts; rw [hview])
    (by
      rw [payload_rcv]
      unfold rcvPay segPts
      rw [org_tgt, ← hview]
      exact Entails.of_eq (pointsTo_congr (fun i hi => landed_eq (yM.slice (Rect.unit (s := S1024x1024) off S32x1024.size inb) hr').view fd (YA m) i hi)))) $$ [Hs Hdst HO Hd1 Hd2]
  · isplitr; · iapply (inv_at m K c (kSnd (L, h, g))); iexact HR
    isplitr; · iapply (inv_at m K (tgt c L) (kRcv (L, h, g))); iexact HR
    isplitl [Hs]; · unfold sg segPts; rw [← hview]; iexact Hs
    isplitl [Hdst]; · unfold segPts; rw [← hview]; iexact Hdst
    isplitl [HO]; · iexact HO
    isplitl [Hd1]; · iexact Hd1
    isplitr; · iapply (reached_at m K c (kSnd (L, h, g))); iexact HR
    isplitl [Hd2]; · iexact Hd2
    iapply (reached_at m K (tgt c L) (kRcv (L, h, g))); iexact HR
  iintro ⟨Hcs, HO⟩
  iapply Hk
  isplitr; · iexact HR
  isplitr; · iexact HL
  isplitr [HO]
  · iapply Hback
    iapply Hback'
    unfold fl
    isplitl [Hcs]; · iexact Hcs
    isplitl [Hcr]; · iexact Hcr
    isplitl [Ha1]; · iexact Ha1
    iexact Ha2
  · iexists W; iexact HO

/-- Wait for hop `h`'s send: the sent rows are back. -/
theorem st_wait_send (c : Dev nD) (L : Bool) (h : Fin 3) (g : Fin 4) (ph ph' : Q → ℕ) (l : List T)
    {off : Fin 2 → ℕ} {inb : ∀ a, off a + S32x1024.size a ≤ S1024x1024.size a} {hr hr'} {sS : DmaSem sig}
    {hsrc : (yM.slice (Rect.unit (s := S1024x1024) off S32x1024.size inb) hr).view.WordExact}
    {hdst : (yM.slice (Rect.unit (s := S1024x1024) off S32x1024.size inb) hr').view.WordExact}
    {α : Type} {Q' : α → sProp 𝕄} {k : PUnit → Prog (TpuEff nD τ sig (Elt F) Λ₀ .tc) α}
    (hsS : sS = sndSem (L, h, g))
    (h1 : ph (L, g) = 3 * h.val + 1) (h2 : ph' (L, g) = 3 * h.val + 2) (h3 : ∀ q', q' ≠ (L, g) → ph' q' = ph q') :
    St m K c ph l
      ⊢ iprop((St m K c ph' l -∗ wp frame (wpE (defs₀ (F := F)) 𝒱₀ (c : Thread nD τ) none) Set.univ (k ⟨⟩) Q')
          -∗ wp frame (wpE (defs₀ (F := F)) 𝒱₀ (c : Thread nD τ) none) Set.univ
              (.op (.waitDma2 sS (yM.slice (Rect.unit (s := S1024x1024) off S32x1024.size inb) hr : Memref sig .tc .vmem S32x1024 .bf16)
                (yM.slice (Rect.unit (s := S1024x1024) off S32x1024.size inb) hr' : Memref sig .tc .vmem S32x1024 .bf16) hsrc hdst) k) Q') := by
  subst hsS
  unfold St
  iintro ⟨#HR, #HL, HC, HO⟩ Hk
  ihave HC := (chs_step m c ph ph' (L, g) _ _ h1 h2 h3) $$ HC
  icases HC with ⟨HC, Hback⟩
  ihave HC := (ch_sent m c L h g) $$ HC
  icases HC with ⟨Hf, Hback'⟩
  unfold fl Ow
  icases Hf with ⟨Hcs, Hcr, Ha1, Ha2⟩
  icases HO with ⟨%W, HO⟩
  iapply (Rounds.wp_wait_rest_token 𝒱₀ ER (rd m) (c : Thread nD τ) none (κ := K (c, kSnd (L, h, g)))
      (wpE_waitDma2_eq 𝒱₀ (c : Thread nD τ) none Set.univ (hsrc := hsrc) (hdst := hdst)) (Set.mem_univ _) () (O := owedL c l) (W := W) (R := 0) (m := 0) (T := ∅)
      ((Nat.zero_add _).trans (expect_snd m c (L, h, g)).symm)) $$ [Hcs HO Ha1]
  · isplitr; · iapply (inv_at m K c (kSnd (L, h, g))); iexact HR
    isplitl [Hcs]; · iexact Hcs
    isplitl [HO]; · iexact HO
    isplitr
    · iapply (mayWait_owed c (.dma (sndSem (L, h, g))) l 0 (by rw [kd_snd]; exact Nat.le_refl 0) (fun t _ => by omega)); iexact HL
    iexact Ha1
  iintro ⟨HO, Ha1, -, Hpay⟩
  ihave Hpay := (Entails.of_eq (rest_snd m c (L, h, g))) $$ Hpay
  imod (Rounds.cell_close ER (rd m) (Set.mem_univ (K (c, kSnd (L, h, g)))) (fun h => h) (R := 0 + 1) (duties_later m (sndCell c (L, h, g)))) $$ [Ha1] with Hz
  · isplitr; · iapply (inv_at m K c (kSnd (L, h, g))); iexact HR
    iexact Ha1
  iapply Hk
  isplitr; · iexact HR
  isplitr; · iexact HL
  isplitr [HO]
  · iapply Hback
    iapply Hback'
    isplitr [Hpay]
    · unfold ha
      isplitl [Hz]; · iexact Hz
      isplitl [Hcr]; · iexact Hcr
      iexact Ha2
    unfold sndPay sg
    iexact Hpay
  · iexists _; iexact HO

/-- Wait for hop `h`'s receive: the neighbour's rows are here. -/
theorem st_wait_recv (c : Dev nD) (L : Bool) (h : Fin 3) (g : Fin 4) (ph ph' : Q → ℕ) (l : List T)
    {off : Fin 2 → ℕ} {inb : ∀ a, off a + S32x1024.size a ≤ S1024x1024.size a} {hr hr'} {sR : DmaSem sig}
    {hsrc : (yM.slice (Rect.unit (s := S1024x1024) off S32x1024.size inb) hr).view.WordExact}
    {hdst : (yM.slice (Rect.unit (s := S1024x1024) off S32x1024.size inb) hr').view.WordExact}
    {α : Type} {Q' : α → sProp 𝕄} {k : PUnit → Prog (TpuEff nD τ sig (Elt F) Λ₀ .tc) α}
    (hsR : sR = rcvSem (L, h, g)) (hl : ∀ t ∈ l, h.val < t.2.1.val)
    (h1 : ph (L, g) = 3 * h.val + 2) (h2 : ph' (L, g) = 3 * h.val + 3) (h3 : ∀ q', q' ≠ (L, g) → ph' q' = ph q') :
    St m K c ph l
      ⊢ iprop((St m K c ph' l -∗ wp frame (wpE (defs₀ (F := F)) 𝒱₀ (c : Thread nD τ) none) Set.univ (k ⟨⟩) Q')
          -∗ wp frame (wpE (defs₀ (F := F)) 𝒱₀ (c : Thread nD τ) none) Set.univ
              (.op (.waitDma2 sR (yM.slice (Rect.unit (s := S1024x1024) off S32x1024.size inb) hr : Memref sig .tc .vmem S32x1024 .bf16)
                (yM.slice (Rect.unit (s := S1024x1024) off S32x1024.size inb) hr' : Memref sig .tc .vmem S32x1024 .bf16) hsrc hdst) k) Q') := by
  subst hsR
  unfold St
  iintro ⟨#HR, #HL, HC, HO⟩ Hk
  ihave HC := (chs_step m c ph ph' (L, g) _ _ h1 h2 h3) $$ HC
  icases HC with ⟨HC, Hback⟩
  ihave HC := (ch_rcvd m c L h g) $$ HC
  icases HC with ⟨Hf, Hback'⟩
  unfold ha Ow
  icases Hf with ⟨Hz, Hcr, Ha⟩
  icases HO with ⟨%W, HO⟩
  iapply (Rounds.wp_wait_rest_token 𝒱₀ ER (rd m) (c : Thread nD τ) none (κ := K (c, kRcv (L, h, g)))
      (wpE_waitDma2_eq 𝒱₀ (c : Thread nD τ) none Set.univ (hsrc := hsrc) (hdst := hdst)) (Set.mem_univ _) () (O := owedL c l) (W := W) (R := 0) (m := 0) (T := ∅)
      ((Nat.zero_add _).trans (expect_rcv m c (L, h, g)).symm)) $$ [Hcr HO Ha]
  · isplitr; · iapply (inv_at m K c (kRcv (L, h, g))); iexact HR
    isplitl [Hcr]; · iexact Hcr
    isplitl [HO]; · iexact HO
    isplitr
    · iapply (mayWait_owed c (.dma (rcvSem (L, h, g))) l (2 + h.val) (by rw [kd_rcv]; exact Nat.le_refl _) (fun t ht => by have := hl t ht; omega)); iexact HL
    iexact Ha
  iintro ⟨HO, Ha, -, Hpay⟩
  ihave Hpay := (Entails.of_eq (rest_rcv m c (L, h, g))) $$ Hpay
  imod (Rounds.cell_close ER (rd m) (Set.mem_univ (K (c, kRcv (L, h, g)))) (fun h => h) (R := 0 + 1) (duties_later m (rcvCell c (L, h, g)))) $$ [Ha] with Hz'
  · isplitr; · iapply (inv_at m K c (kRcv (L, h, g))); iexact HR
    iexact Ha
  iapply Hk
  isplitr; · iexact HR
  isplitr; · iexact HL
  isplitr [HO]
  · iapply Hback
    iapply Hback'
    isplitr [Hpay]
    · unfold dn
      isplitl [Hz]; · iexact Hz
      iexact Hz'
    unfold rcvPay sg
    iexact Hpay
  · iexists _; iexact HO

end Steps

end Cert.Moe

end
-- ==== Proof.Local.lean ====
/-
# A device's own steps

The experts' local copies, the barrier, and the write of a chunk of rows: each a step from one state to the next.
-/
module

public import proofs.«01_k».proof.Proof.State

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Regrouping by ring, step and piece -/

theorem regroup {n : ℕ} (Φ : Bool → Fin n → Fin 4 → sProp 𝕄) :
    bigSep Finset.univ (fun q : Q => bigSep Finset.univ fun k : Fin n => Φ q.1 k q.2)
      = bigSep Finset.univ fun s : Bool × Fin n × Fin 4 => Φ s.1 s.2.1 s.2.2 := by
  rw [bigSep_univ_prod, bigSep_univ_prod]
  refine bigSep_congr fun L _ => ?_
  rw [bigSep_univ_prod (fun s : Fin n × Fin 4 => Φ L s.1 s.2)]
  exact bigSep_univ_comm (fun (g : Fin 4) (k : Fin n) => Φ L k g)

theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep3 (Φ : Fin 3 → sProp 𝕄) : bigSep Finset.univ Φ = iprop(Φ 0 ∗ Φ 1 ∗ Φ 2) :=
  bigSep_univ_eq_bigSepL [0, 1, 2] (by decide) (by decide) Φ
theorem sep2 (Φ : Bool → sProp 𝕄) : bigSep Finset.univ Φ = iprop(Φ false ∗ Φ true) :=
  bigSep_univ_eq_bigSepL [false, true] (by decide) (by decide) Φ

/-! ## The experts' copies -/

def EwA (c : Dev nD) (j : Fin 4) : sProp 𝕄 :=
  iprop(dutyTok ER (ewCell c j) 0 false ∗ atPos ER (ewCell c j) 0 ∅ 0 ∗ (∃ f, ewPts (F := F) c j f) ∗ hbPts m c j)
def EwB (c : Dev nD) (j : Fin 4) : sProp 𝕄 := iprop(cred (tallyAt (ewCell c j) () NE) ∗ atPos ER (ewCell c j) 0 ∅ 0)
def EwC (c : Dev nD) (j : Fin 4) : sProp 𝕄 := iprop(semVal (ewCell c j) 0 ∗ ewPts c j (ev m c) ∗ hbPts m c j)

section Local
variable (K : Dev nD × CIx → ℕ)

abbrev eV (off : Fin 3 → ℕ) (inb : ∀ a, off a + S1x512x1024.size a ≤ S4x512x1024.size a) : Memref sig .tc .vmem S512x1024 .f32 :=
  (eM.slice (Rect.unit (s := S4x512x1024) off S1x512x1024.size inb) (fun _ => rfl)).squeeze S512x1024 squeezes_S1x512x1024_S512x1024
abbrev hV (off : Fin 3 → ℕ) (inb : ∀ a, off a + S1x512x1024.size a ≤ S4x512x1024.size a) : Memref sig .tc .hbm S512x1024 .f32 :=
  (hM.slice (Rect.unit (s := S4x512x1024) off S1x512x1024.size inb) (fun _ => rfl)).squeeze S512x1024 squeezes_S1x512x1024_S512x1024

theorem eV_set (j : Fin 4) {off inb} (h : off = ![j.val, 0, 0]) : ((eV off inb).view.set : Finset S4x512x1024.Idx) = ewSet j := by
  subst h
  exact (View.set_reshape _ _).trans ((View.set_slice_whole cc0_scratch3 _).trans (ewRect_set j))
theorem hV_set (j : Fin 4) {off inb} (h : off = ![j.val, 0, 0]) : ((hV off inb).view.set : Finset S4x512x1024.Idx) = ewSet j := by
  subst h
  exact (View.set_reshape _ _).trans ((View.set_slice_whole main_arg3 _).trans (ewRect_set j))

/-- An expert copied is the expert. -/
theorem copied_eq {off inb} (f g : S4x512x1024.Idx → Elt F .f32) :
    ∀ i ∈ (eV off inb).view.set, (eV off inb).view.write (Elt F) f ((hV off inb).view.read (Elt F) g) Finset.univ i = g i := by
  intro i hi
  obtain ⟨x, -, rfl⟩ := Finset.mem_map.1 hi
  rw [View.write_emb_of_mem _ _ (Finset.mem_univ x)]
  rfl

theorem ew_start (c : Dev nD) (j : Fin 4) {off inb} {sm : DmaSem sig}
    {hsrc : (hV off inb).view.WordExact} {hdst : (eV off inb).view.WordExact}
    {hsem : DmaTarget.Typed (nD := nD) .hbm (.dma sm) (.here (eV off inb) : DmaTarget nD τ sig (c : Thread nD τ).2 .vmem S512x1024 .f32)}
    {α : Type} {Q' : α → sProp 𝕄} {k : PUnit → Prog (TpuEff nD τ sig (Elt F) Λ₀ .tc) α}
    (hoff : off = ![j.val, 0, 0]) (hsm : sm = ewSem j) :
    iprop(records m K ∗ EwA m c j)
      ⊢ iprop((EwB c j -∗ wp frame (wpE (defs₀ (F := F)) 𝒱₀ (c : Thread nD τ) none) Set.univ (k ⟨⟩) Q')
          -∗ wp frame (wpE (defs₀ (F := F)) 𝒱₀ (c : Thread nD τ) none) Set.univ
              (.op (.enqueueDma (hV off inb) (.here (eV off inb) : DmaTarget nD τ sig (c : Thread nD τ).2 .vmem S512x1024 .f32) (.dma sm) hsrc hdst hsem) k) Q') := by
  subst hsm
  unfold EwA EwB
  iintro ⟨#HR, Hd, Ha, ⟨%f, He⟩, Hh⟩ Hk
  have he := eV_set j (inb := inb) hoff
  have hh := hV_set j (inb := inb) hoff
  iapply (Rounds.wp_copy_pointsTo 𝒱₀ ER (rd m) (c : Thread nD τ) none (src := hV off inb) (dst := eV off inb)
    (q := fullShare) (fs := ev m c) (fd := f) (r := 0) (d := false) (κ := K (c, kEw j))
    (by rw [duties_ew]; exact Finset.mem_singleton_self _) () NE rfl (amount_ew m c j false)
    (by
      rw [payload_ew]
      unfold ewPay ewPts hbPts
      refine BIClass.sep_mono (Entails.of_eq ((pointsTo_congr (fun i hi => copied_eq f (ev m c) i hi)).trans (by rw [he]))) (Entails.of_eq (by rw [hh])))) $$ [Hd He Hh]
  · isplitr; · iapply (inv_at m K c (kEw j)); iexact HR
    isplitl [Hh]; · unfold hbPts; rw [← hh]; iexact Hh
    isplitl [He]; · unfold ewPts; rw [← he]; iexact He
    isplitl [Hd]; · iexact Hd
    iapply (reached_at m K c (kEw j)); iexact HR
  iintro Hc
  iapply Hk
  isplitl [Hc]; · iexact Hc
  iexact Ha

theorem ew_wait (c : Dev nD) (j : Fin 4) (ph : Q → ℕ) (l : List T) {off inb} {sm : DmaSem sig}
    {hsrc : (hV off inb).view.WordExact} {hdst : (eV off inb).view.WordExact}
    {α : Type} {Q' : α → sProp 𝕄} {k : PUnit → Prog (TpuEff nD τ sig (Elt F) Λ₀ .tc) α}
    (hsm : sm = ewSem j) :
    iprop(St m K c ph l ∗ EwB c j)
      ⊢ iprop(((St m K c ph l ∗ EwC m c j) -∗ wp frame (wpE (defs₀ (F := F)) 𝒱₀ (c : Thread nD τ) none) Set.univ (k ⟨⟩) Q')
          -∗ wp frame (wpE (defs₀ (F := F)) 𝒱₀ (c : Thread nD τ) none) Set.univ
              (.op (.waitDma2 sm (hV off inb) (eV off inb) hsrc hdst) k) Q') := by
  subst hsm
  unfold St EwB EwC Ow
  iintro ⟨⟨#HR, #HL, HC, ⟨%W, HO⟩⟩, Hcr, Ha⟩ Hk
  iapply (Rounds.wp_wait_rest_token 𝒱₀ ER (rd m) (c : Thread nD τ) none (κ := K (c, kEw j))
      (wpE_waitDma2_eq 𝒱₀ (c : Thread nD τ) none Set.univ (hsrc := hsrc) (hdst := hdst)) (Set.mem_univ _) () (O := owedL c l) (W := W) (R := 0) (m := 0) (T := ∅)
      ((Nat.zero_add _).trans (expect_ew m c j).symm)) $$ [Hcr HO Ha]
  · isplitr; · iapply (inv_at m K c (kEw j)); iexact HR
    isplitl [Hcr]; · iexact Hcr
    isplitl [HO]; · iexact HO
    isplitr
    · iapply (mayWait_owed c (.dma (ewSem j)) l 0 (by rw [kd_ew]; exact Nat.le_refl 0) (fun t _ => by omega)); iexact HL
    iexact Ha
  iintro ⟨HO, Ha, -, Hpay⟩
  ihave Hpay := (Entails.of_eq (rest_ew m c j)) $$ Hpay
  imod (Rounds.cell_close ER (rd m) (Set.mem_univ (K (c, kEw j))) (fun h => h) (R := 0 + 1) (duties_later m (ewCell c j))) $$ [Ha] with Hz
  · isplitr; · iapply (inv_at m K c (kEw j)); iexact HR
    iexact Ha
  iapply Hk
  isplitr [Hz Hpay]
  · isplitr; · iexact HR
    isplitr; · iexact HL
    isplitl [HC]; · iexact HC
    iexists _; iexact HO
  · isplitl [Hz]; · iexact Hz
    unfold ewPay
    iexact Hpay

theorem ew_load (c : Dev nD) (j : Fin 4) {off inb}
    {hl : eM.view.LoadsAt (Rect.unit (s := S4x512x1024) off S1x512x1024.size inb).toLoadRect}
    {α : Type} {Q' : α → sProp 𝕄} {k : Vec F S1x512x1024 .f32 → Prog (TpuEff nD τ sig (Elt F) Λ₀ .tc) α}
    (hoff : off = ![j.val, 0, 0]) :
    EwC m c j
      ⊢ iprop((EwC m c j -∗ wp frame (wpE (defs₀ (F := F)) 𝒱₀ (c : Thread nD τ) none) Set.univ (k (ewv m c j)) Q')
          -∗ wp frame (wpE (defs₀ (F := F)) 𝒱₀ (c : Thread nD τ) none) Set.univ
              (.op (.load eM (Rect.unit (s := S4x512x1024) off S1x512x1024.size inb).toLoadRect hl) k) Q') := by
  subst hoff
  unfold EwC ewPts
  iintro ⟨Hz, He, Hh⟩ Hk
  iapply (wp_load 𝒱₀ (c : Thread nD τ) none Set.univ (m := eM) (S := ewSet j)
    (by
      rw [show eM.view.setOn (Rect.unit (s := S4x512x1024) ![j.val, 0, 0] S1x512x1024.size inb).set = ewSet j from
        (Finset.map_refl (s := (Rect.unit (s := S4x512x1024) ![j.val, 0, 0] S1x512x1024.size inb).set)).trans (ewRect_set j)])) $$ He
  iintro He
  iapply Hk
  isplitl [Hz]; · iexact Hz
  isplitl [He]; · iexact He
  iexact Hh

/-! ## The barrier -/

/-- Before the barrier: the neighbours' units to pay, with the rows to hand over; its own two to wait for. -/
def BarA (c : Dev nD) : sProp 𝕄 :=
  iprop(dutyTok ER (barCell (prv c)) 0 false ∗ dutyTok ER (barCell (nxt c)) 0 true ∗ cred (tallyAt (barCell c) () 2)
    ∗ atPos ER (barCell c) 0 ∅ 0 ∗ barPay (F := F) (prv c) false ∗ barPay (F := F) (nxt c) true)

theorem barPay_eq (c : Dev nD) (L : Bool) :
    barPay (F := F) c L = bigSep Finset.univ fun g : Fin 4 => bigSep Finset.univ fun h : Fin 3 => ds (F := F) c (L, h, g) := by
  unfold barPay
  rw [bigSep_univ_prod (fun hg : Fin 3 × Fin 4 => iprop(∃ f, segPts (F := F) (tgt c L) (org c L hg.1.castSucc) L hg.2 f))]
  exact bigSep_univ_comm _

/-- The rows the neighbours hand over ready the chains. -/
theorem chs_open (c : Dev nD) :
    iprop(Chs m c (fun _ => 11) ∗ bigSep Finset.univ fun L : Bool => barPay (F := F) c L) ⊢ Chs m c (fun _ => 10) := by
  rw [show (bigSep Finset.univ fun L : Bool => barPay (F := F) c L)
      = bigSep Finset.univ fun q : Q => bigSep Finset.univ fun h : Fin 3 => ds (F := F) c (q.1, h, q.2) by
    rw [bigSep_univ_prod]; exact bigSep_congr fun L _ => barPay_eq c L]
  unfold Chs
  refine (Entails.of_eq (bigSep_sep' _ _ _).symm).trans (bigSep_mono fun q _ => ?_)
  rw [sep3]
  show iprop(((∃ f, segPts (F := F) c c q.1 q.2 f) ∗ tk c (q.1, 0, q.2) ∗ tk c (q.1, 1, q.2) ∗ tk c (q.1, 2, q.2))
      ∗ ds (F := F) c (q.1, 0, q.2) ∗ ds (F := F) c (q.1, 1, q.2) ∗ ds (F := F) c (q.1, 2, q.2))
    ⊢ iprop((∃ f, segPts (F := F) c c q.1 q.2 f) ∗ un c (q.1, 0, q.2) ∗ un c (q.1, 1, q.2) ∗ un c (q.1, 2, q.2))
  unfold un
  iintro ⟨⟨H, H0, H1, H2⟩, D0, D1, D2⟩
  isplitl [H]; · iexact H
  isplitl [H0 D0]
  · isplitl [H0]; · iexact H0
    iexact D0
  isplitl [H1 D1]
  · isplitl [H1]; · iexact H1
    iexact D1
  isplitl [H2]; · iexact H2
  iexact D2

theorem bar_steps (c n₁ n₂ : Dev nD) {α : Type} {Q' : α → sProp 𝕄} {k : PUnit → Prog (TpuEff nD τ sig (Elt F) Λ₀ .tc) α} {k₁ k₂ : ℕ}
    (hn₁ : n₁ = prv c) (hn₂ : n₂ = nxt c) (hk₁ : k₁ = 1) (hk₂ : k₂ = 2) :
    iprop(records m K ∗ levAts Lx lv ∗ Chs m c (fun _ => 11) ∗ (∃ W : Waits sig Unit, owes (c : Thread nD τ) (O₀ c) W) ∗ BarA c)
      ⊢ iprop(((St m K c (phv [10, 10, 10, 10, 10, 10, 10, 10]) (order.drop 0) ∗ semVal (barCell c) 0)
            -∗ wp frame (wpE (defs₀ (F := F)) 𝒱₀ (c : Thread nD τ) none) Set.univ (k ⟨⟩) Q')
          -∗ wp frame (wpE (defs₀ (F := F)) 𝒱₀ (c : Thread nD τ) none) Set.univ
              (.op (.semSignal (Dev.tc n₁ : Thread nD τ) barS k₁) fun _ => .op (.semSignal (Dev.tc n₂ : Thread nD τ) barS k₁) fun _ => .op (.semWait barS k₂) k) Q') := by
  subst hn₁ hn₂ hk₁ hk₂
  unfold St BarA
  iintro ⟨#HR, #HL, HC, ⟨%W, HO⟩, Hd1, Hd2, Hcr, Ha, Hp1, Hp2⟩ Hk
  iapply (Rounds.wp_signal 𝒱₀ ER (rd m) (c : Thread nD τ) none (dst := (prv c : Thread nD τ)) (κ := K (prv c, kBar))
      (d := false) (duties_bar m (prv c) false) (amount_bar m (prv c) false) () (O₁ c) rfl) $$ [HO Hd1 Hp1]
  · isplitr; · iapply (inv_at m K (prv c) kBar); iexact HR
    isplitl [HO]; · iexact HO
    isplitl [Hd1]; · iexact Hd1
    isplitl [Hp1]; · rw [payload_bar]; iexact Hp1
    iapply (reached_at m K (prv c) kBar); iexact HR
  iintro HO
  unfold O₁
  iapply (Rounds.wp_signal 𝒱₀ ER (rd m) (c : Thread nD τ) none (dst := (nxt c : Thread nD τ)) (κ := K (nxt c, kBar))
      (d := true) (duties_bar m (nxt c) true) (amount_bar m (nxt c) true) () (owedL c order) rfl) $$ [HO Hd2 Hp2]
  · isplitr; · iapply (inv_at m K (nxt c) kBar); iexact HR
    isplitl [HO]; · iexact HO
    isplitl [Hd2]; · iexact Hd2
    isplitl [Hp2]; · rw [payload_bar]; iexact Hp2
    iapply (reached_at m K (nxt c) kBar); iexact HR
  iintro HO
  iapply (Rounds.wp_wait_rest_token 𝒱₀ ER (rd m) (c : Thread nD τ) none (κ := K (c, kBar))
      (wpE_semWait_eq 𝒱₀ (c : Thread nD τ) none Set.univ) (Set.mem_univ _) () (O := owedL c order) (W := W) (R := 0) (m := 0) (T := ∅)
      ((Nat.zero_add _).trans (expect_bar m c).symm)) $$ [Hcr HO Ha]
  · isplitr; · iapply (inv_at m K c kBar); iexact HR
    isplitl [Hcr]; · iexact Hcr
    isplitl [HO]; · iexact HO
    isplitr
    · iapply (mayWait_owed c (.reg barS) order 1 (by rw [kd_bar]; exact Nat.le_refl 1) (fun t _ => by omega)); iexact HL
    iexact Ha
  iintro ⟨HO, Ha, -, Hpay⟩
  ihave Hpay := (Entails.of_eq (rest_bar m c)) $$ Hpay
  imod (Rounds.cell_close ER (rd m) (Set.mem_univ (K (c, kBar))) (fun h => h) (R := 0 + 1) (duties_later m (barCell c))) $$ [Ha] with Hz
  · isplitr; · iapply (inv_at m K c kBar); iexact HR
    iexact Ha
  ihave HC := (chs_open m c) $$ [HC Hpay]
  · isplitl [HC]; · iexact HC
    iexact Hpay
  iapply Hk
  isplitr [Hz]
  · isplitr; · iexact HR
    isplitr; · iexact HL
    isplitl [HC]
    · rw [show phv [10, 10, 10, 10, 10, 10, 10, 10] = fun _ => 10 from funext (by decide)]; iexact HC
    unfold Ow
    iexists _; iexact HO
  · iexact Hz

/-! ## The write of a chunk -/

theorem YA_chunk (c : Dev nD) (j : Fin 4) (x : S64x1024.Idx) (i : S1024x1024.Idx) (h0 : (i 0 : ℕ) = 256 * c.val + 64 * j.val + (x 0 : ℕ))
    (h1 : (i 1 : ℕ) = (x 1 : ℕ)) : YA m i = chunk m c j x := by
  have hx : (x 0 : ℕ) < 64 := (x 0).isLt
  have hj := j.isLt
  unfold YA
  refine congr (congrArg₂ (chunk m) (Fin.ext ?_) (Fin.ext ?_)) (funext fun a => ?_)
  · show (i 0 : ℕ) / 256 = c.val; omega
  · show (i 0 : ℕ) % 256 / 64 = j.val; omega
  · match a with
    | ⟨0, _⟩ => exact Fin.ext (by show (i 0 : ℕ) % 64 = (x 0 : ℕ); omega)
    | ⟨1, _⟩ => exact Fin.ext h1

theorem st_chunk (c : Dev nD) (j : Fin 4) (ph ph' : Q → ℕ) (l : List T) {off : Fin 2 → ℕ} {inb : ∀ a, off a + S64x1024.size a ≤ S1024x1024.size a}
    {hl : yM.view.LoadsAt (Rect.unit (s := S1024x1024) off S64x1024.size inb).toLoadRect} {w : FVec F S64x1024 .bf16}
    {hx : (yM.access (Rect.unit (s := S1024x1024) off S64x1024.size inb)).Stores Finset.univ}
    {hm : (Finset.univ : Finset (Rect.unit (s := S1024x1024) off S64x1024.size inb).shape.Idx) = Finset.univ ∨ ∀ a, (Rect.unit (s := S1024x1024) off S64x1024.size inb).stride a = 1}
    {α : Type} {Q' : α → sProp 𝕄} {k : PUnit → Prog (TpuEff nD τ sig (Elt F) Λ₀ .tc) α}
    (hoff : off = ![256 * c.val + 64 * j.val, 0]) (hw : w = chunk m c j)
    (hA : ph (chL j, chA j) = 10) (hB : ph (chL j, chB j) = 10) (hA' : ph' (chL j, chA j) = 0) (hB' : ph' (chL j, chB j) = 0)
    (hne : chA j ≠ chB j) (h3 : ∀ q', q' ≠ (chL j, chA j) → q' ≠ (chL j, chB j) → ph' q' = ph q') :
    St m K c ph l
      ⊢ iprop((St m K c ph' l -∗ wp frame (wpE (defs₀ (F := F)) 𝒱₀ (c : Thread nD τ) none) Set.univ (k ⟨⟩) Q')
          -∗ wp frame (wpE (defs₀ (F := F)) 𝒱₀ (c : Thread nD τ) none) Set.univ
              (.op (.load yM (Rect.unit (s := S1024x1024) off S64x1024.size inb).toLoadRect hl) fun _ =>
                .op (.store yM (Rect.unit (s := S1024x1024) off S64x1024.size inb) w Finset.univ hx hm) k) Q') := by
  have hset : (Rect.unit (s := S1024x1024) off S64x1024.size inb).set = chunkSet c j := rect_set hoff rfl
  have hacc : ((yM.access (Rect.unit (s := S1024x1024) off S64x1024.size inb)).set : Finset S1024x1024.Idx) = chunkSet c j :=
    (View.set_slice_whole cc0_scratch1 _).trans hset
  have hqne : ((chL j, chB j) : Q) ≠ (chL j, chA j) := fun h => hne (Prod.ext_iff.1 h).2.symm
  let p1 : Q → ℕ := Function.update ph (chL j, chA j) 12
  let p2 : Q → ℕ := Function.update p1 (chL j, chB j) 12
  let p3 : Q → ℕ := Function.update p2 (chL j, chA j) 0
  have e1 : p1 (chL j, chB j) = 10 := (Function.update_of_ne hqne _ _).trans hB
  have e2 : p2 (chL j, chA j) = 12 := (Function.update_of_ne hqne.symm _ _).trans (Function.update_self _ _ _)
  have e3 : p3 (chL j, chB j) = 12 := (Function.update_of_ne hqne _ _).trans (Function.update_self _ _ _)
  unfold St
  iintro ⟨#HR, #HL, HC, HO⟩ Hk
  ihave HC := (chs_step m c ph p1 (chL j, chA j) 10 12 hA (Function.update_self _ _ _) (fun q' h => Function.update_of_ne h _ _)) $$ HC
  icases HC with ⟨HA, Hback⟩
  icases (Entails.of_eq (show Ch (F := F) m c (chL j) (chA j) 10 = iprop((∃ f, segPts (F := F) c c (chL j) (chA j) f) ∗ Ch m c (chL j) (chA j) 12) from rfl)) $$ HA with ⟨⟨%f, HA⟩, HAr⟩
  ihave HC := Hback $$ HAr
  ihave HC := (chs_step m c p1 p2 (chL j, chB j) 10 12 e1 (Function.update_self _ _ _) (fun q' h => Function.update_of_ne h _ _)) $$ HC
  icases HC with ⟨HB, Hback⟩
  icases (Entails.of_eq (show Ch (F := F) m c (chL j) (chB j) 10 = iprop((∃ f, segPts (F := F) c c (chL j) (chB j) f) ∗ Ch m c (chL j) (chB j) 12) from rfl)) $$ HB with ⟨⟨%g, HB⟩, HBr⟩
  ihave HC := Hback $$ HBr
  unfold segPts
  ihave H := (pointsTo_join (ℓ := (c : Thread nD τ).loc cc0_scratch1) (chunk_disj c j)) $$ [HA HB]
  · isplitl [HA]; · iexact HA
    iexact HB
  rw [← chunk_union]
  iapply (wp_load 𝒱₀ (c : Thread nD τ) none Set.univ (m := yM) (S := chunkSet c j)
    (by rw [show yM.view.setOn (Rect.unit (s := S1024x1024) off S64x1024.size inb).set = chunkSet c j from (Finset.map_refl (s := (Rect.unit (s := S1024x1024) off S64x1024.size inb).set)).trans hset])) $$ H
  iintro H
  iapply (wp_store 𝒱₀ (c : Thread nD τ) none Set.univ (m := yM) (r := Rect.unit (s := S1024x1024) off S64x1024.size inb) (Mk := Finset.univ) (S := chunkSet c j)
    (by rw [View.setOn_univ, hacc])) $$ H
  iintro H
  ihave H := (Entails.of_eq (pointsTo_congr (g := YA m) (fun i hi => by
    rw [← hacc] at hi
    obtain ⟨x, -, rfl⟩ := Finset.mem_map.1 hi
    rw [View.write_emb_of_mem _ _ (Finset.mem_univ x)]
    subst hoff hw
    exact (YA_chunk m c j x _ (by show (256 * c.val + 64 * j.val) + 1 * (x 0 : ℕ) = _; omega) (by show 0 + 1 * (x 1 : ℕ) = _; omega)).symm))) $$ H
  rw [chunk_union]
  ihave H := (pointsTo_union (ℓ := (c : Thread nD τ).loc cc0_scratch1) (chunk_disj c j)).1 $$ H
  icases H with ⟨HA, HB⟩
  ihave HC := (chs_step m c p2 p3 (chL j, chA j) 12 0 e2 (Function.update_self _ _ _) (fun q' h => Function.update_of_ne h _ _)) $$ HC
  icases HC with ⟨HAr, Hback⟩
  ihave HC := Hback $$ [HAr HA]
  · iapply (Entails.of_eq (show iprop((sg m c (chL j) (chA j) 0 ∗ un c (chL j, 0, chA j)) ∗ un c (chL j, 1, chA j) ∗ un c (chL j, 2, chA j)) = Ch (F := F) m c (chL j) (chA j) 0 from rfl))
    icases (Entails.of_eq (show Ch (F := F) m c (chL j) (chA j) 12 = iprop(un c (chL j, 0, chA j) ∗ un c (chL j, 1, chA j) ∗ un c (chL j, 2, chA j)) from rfl)) $$ HAr with ⟨U0, U1⟩
    isplitl [HA U0]
    · isplitl [HA]; · unfold sg segPts; rw [org_zero]; iexact HA
      iexact U0
    iexact U1
  ihave HC := (chs_step m c p3 ph' (chL j, chB j) 12 0 e3 hB' (fun q' h => by
    by_cases hq : q' = (chL j, chA j)
    · subst hq; exact hA'.trans (show p3 (chL j, chA j) = 0 from Function.update_self _ _ _).symm
    · exact (h3 q' hq h).trans ((Function.update_of_ne hq _ _).trans ((Function.update_of_ne h _ _).trans (Function.update_of_ne hq _ _))).symm)) $$ HC
  icases HC with ⟨HBr, Hback⟩
  ihave HC := Hback $$ [HBr HB]
  · iapply (Entails.of_eq (show iprop((sg m c (chL j) (chB j) 0 ∗ un c (chL j, 0, chB j)) ∗ un c (chL j, 1, chB j) ∗ un c (chL j, 2, chB j)) = Ch (F := F) m c (chL j) (chB j) 0 from rfl))
    icases (Entails.of_eq (show Ch (F := F) m c (chL j) (chB j) 12 = iprop(un c (chL j, 0, chB j) ∗ un c (chL j, 1, chB j) ∗ un c (chL j, 2, chB j)) from rfl)) $$ HBr with ⟨U0, U1⟩
    isplitl [HB U0]
    · isplitl [HB]; · unfold sg segPts; rw [org_zero]; iexact HB
      iexact U0
    iexact U1
  iapply Hk
  isplitr; · iexact HR
  isplitr; · iexact HL
  isplitl [HC]; · iexact HC
  iexact HO

end Local

end Cert.Moe

end
-- ==== Proof.Ring.lean ====
/-
# The kernel's ring parts

The parts of the kernel that only start transfers and wait for them: each takes the device's state to the next.
-/
module

public import proofs.«01_k».proof.Proof.State

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The transfers' targets, as the kernel computes them -/

theorem dev3_eq (c : Dev nD) : (⟨k0_dev3 c, k0_dev3_lt c⟩ : Dev nD) = tgt c false := by revert c; decide +kernel
theorem dev4_eq (c : Dev nD) : (⟨k0_dev4 c, k0_dev4_lt c⟩ : Dev nD) = tgt c false := by revert c; decide +kernel
theorem dev5_eq (c : Dev nD) : (⟨k0_dev5 c, k0_dev5_lt c⟩ : Dev nD) = tgt c false := by revert c; decide +kernel
theorem dev6_eq (c : Dev nD) : (⟨k0_dev6 c, k0_dev6_lt c⟩ : Dev nD) = tgt c false := by revert c; decide +kernel
theorem dev7_eq (c : Dev nD) : (⟨k0_dev7 c, k0_dev7_lt c⟩ : Dev nD) = tgt c true := by revert c; decide +kernel
theorem dev8_eq (c : Dev nD) : (⟨k0_dev8 c, k0_dev8_lt c⟩ : Dev nD) = tgt c true := by revert c; decide +kernel
theorem dev9_eq (c : Dev nD) : (⟨k0_dev9 c, k0_dev9_lt c⟩ : Dev nD) = tgt c true := by revert c; decide +kernel
theorem dev10_eq (c : Dev nD) : (⟨k0_dev10 c, k0_dev10_lt c⟩ : Dev nD) = tgt c true := by revert c; decide +kernel
theorem dev11_eq (c : Dev nD) : (⟨k0_dev11 c, k0_dev11_lt c⟩ : Dev nD) = tgt c false := by revert c; decide +kernel
theorem dev12_eq (c : Dev nD) : (⟨k0_dev12 c, k0_dev12_lt c⟩ : Dev nD) = tgt c true := by revert c; decide +kernel
theorem dev13_eq (c : Dev nD) : (⟨k0_dev13 c, k0_dev13_lt c⟩ : Dev nD) = tgt c false := by revert c; decide +kernel
theorem dev14_eq (c : Dev nD) : (⟨k0_dev14 c, k0_dev14_lt c⟩ : Dev nD) = tgt c true := by revert c; decide +kernel
theorem dev15_eq (c : Dev nD) : (⟨k0_dev15 c, k0_dev15_lt c⟩ : Dev nD) = tgt c false := by revert c; decide +kernel
theorem dev16_eq (c : Dev nD) : (⟨k0_dev16 c, k0_dev16_lt c⟩ : Dev nD) = tgt c true := by revert c; decide +kernel
theorem dev17_eq (c : Dev nD) : (⟨k0_dev17 c, k0_dev17_lt c⟩ : Dev nD) = tgt c false := by revert c; decide +kernel
theorem dev18_eq (c : Dev nD) : (⟨k0_dev18 c, k0_dev18_lt c⟩ : Dev nD) = tgt c true := by revert c; decide +kernel
theorem dev19_eq (c : Dev nD) : (⟨k0_dev19 c, k0_dev19_lt c⟩ : Dev nD) = tgt c false := by revert c; decide +kernel
theorem dev20_eq (c : Dev nD) : (⟨k0_dev20 c, k0_dev20_lt c⟩ : Dev nD) = tgt c true := by revert c; decide +kernel
theorem dev21_eq (c : Dev nD) : (⟨k0_dev21 c, k0_dev21_lt c⟩ : Dev nD) = tgt c false := by revert c; decide +kernel
theorem dev22_eq (c : Dev nD) : (⟨k0_dev22 c, k0_dev22_lt c⟩ : Dev nD) = tgt c true := by revert c; decide +kernel
theorem dev23_eq (c : Dev nD) : (⟨k0_dev23 c, k0_dev23_lt c⟩ : Dev nD) = tgt c false := by revert c; decide +kernel
theorem dev24_eq (c : Dev nD) : (⟨k0_dev24 c, k0_dev24_lt c⟩ : Dev nD) = tgt c true := by revert c; decide +kernel
theorem dev25_eq (c : Dev nD) : (⟨k0_dev25 c, k0_dev25_lt c⟩ : Dev nD) = tgt c false := by revert c; decide +kernel
theorem dev26_eq (c : Dev nD) : (⟨k0_dev26 c, k0_dev26_lt c⟩ : Dev nD) = tgt c true := by revert c; decide +kernel

/-! ## The parts -/

section Ring
variable (K : Dev nD × CIx → ℕ)
  {a0 : Memref sig .tc .vmem S1024x512 .f32} {h0 : a0.IsWhole} {a1 : Memref sig .tc .vmem S1024x1 .i32} {h1 : a1.IsWhole}
  {a2 : Memref sig .tc .hbm S4x512x1024 .f32} {h2 : a2.IsWhole} {a3 : Memref sig .tc .vmem S256x1024 .f32} {h3 : a3.IsWhole}
  {a4 : Memref sig .tc .vmem S1024x1 .f32} {h4 : a4.IsWhole} {h5 : yM.IsWhole} {a6 : Memref sig .tc .vmem S256x1024 .bf16} {h6 : a6.IsWhole}
  {a7 : Memref sig .tc .vmem S4x512x1024 .f32} {h7 : a7.IsWhole} {a8 : DmaSems sig S4}

theorem part9 (c : Dev nD) (v2 : BitVec 32) (v13 : BitVec 32) {Q'} :
    St m K c (phv [1, 1, 1, 1, 0, 0, 10, 10]) (order.drop 4)
      ⊢ iprop((∀ r, St m K c (phv [1, 1, 1, 1, 1, 0, 10, 10]) (order.drop 5) -∗ Q' r)
          -∗ wp frame (wpE (defs₀ (F := F)) 𝒱₀ (c : Thread nD τ) none) Set.univ
              (k0_part9 a0 h0 a1 h1 a2 h2 a3 h3 a4 h4 yM h5 a6 h6 a7 h7 a8 cc0_scratch5 cc0_scratch6 cc0_scratch7 cc0_scratch8 c v2 v13) Q') := by
  rw [k0_part9_eq_skeleton]
  unfold k0_part9_skel
  simp only [Prog.lift, Prog.bind_op, Prog.bind_ret, Prog.pure_eq_ret]
  iintro HS Hk
  iapply (st_send m K c _ true 0 0 (phv [1, 1, 1, 1, 0, 0, 10, 10]) (phv [1, 1, 1, 1, 1, 0, 10, 10]) (order.drop 4) (order.drop 5) (dev7_eq c) (off3_eq c 0 0) rfl rfl rfl rfl rfl (by decide)) $$ HS
  iintro HS
  rw [wp_ret]
  imodintro
  iapply Hk
  iexact HS

theorem part11 (c : Dev nD) (v2 : BitVec 32) (v13 : BitVec 32) (v335 : BitVec 32) (v337 : BitVec 32) {Q'} :
    St m K c (phv [1, 1, 1, 1, 1, 1, 0, 0]) (order.drop 6)
      ⊢ iprop((∀ r, St m K c (phv [1, 1, 1, 1, 1, 1, 1, 0]) (order.drop 7) -∗ Q' r)
          -∗ wp frame (wpE (defs₀ (F := F)) 𝒱₀ (c : Thread nD τ) none) Set.univ
              (k0_part11 a0 h0 a1 h1 a2 h2 a3 h3 a4 h4 yM h5 a6 h6 a7 h7 a8 cc0_scratch5 cc0_scratch6 cc0_scratch7 cc0_scratch8 c v2 v13 v335 v337) Q') := by
  rw [k0_part11_eq_skeleton]
  unfold k0_part11_skel
  simp only [Prog.lift, Prog.bind_op, Prog.bind_ret, Prog.pure_eq_ret]
  iintro HS Hk
  iapply (st_send m K c _ true 0 2 (phv [1, 1, 1, 1, 1, 1, 0, 0]) (phv [1, 1, 1, 1, 1, 1, 1, 0]) (order.drop 6) (order.drop 7) (dev9_eq c) (off3_eq c 0 2) rfl rfl rfl rfl rfl (by decide)) $$ HS
  iintro HS
  rw [wp_ret]
  imodintro
  iapply Hk
  iexact HS

theorem part12 (c : Dev nD) (v13 : BitVec 32) (v55 : IVec S1024x1 32) {Q'} :
    St m K c (phv [1, 1, 1, 1, 1, 1, 1, 0]) (order.drop 7)
      ⊢ iprop((St m K c (phv [1, 1, 1, 1, 1, 1, 1, 1]) (order.drop 8) -∗ Q' ⟨k0_pay13 v55, k0_pay14 v55⟩)
          -∗ wp frame (wpE (defs₀ (F := F)) 𝒱₀ (c : Thread nD τ) none) Set.univ
              (k0_part12 a0 h0 a1 h1 a2 h2 a3 h3 a4 h4 yM h5 a6 h6 a7 h7 a8 cc0_scratch5 cc0_scratch6 cc0_scratch7 cc0_scratch8 c v13 v55) Q') := by
  rw [k0_part12_eq_skeleton]
  unfold k0_part12_skel
  simp only [Prog.lift, Prog.bind_op, Prog.bind_ret, Prog.pure_eq_ret]
  iintro HS Hk
  iapply (st_send m K c _ true 0 3 (phv [1, 1, 1, 1, 1, 1, 1, 0]) (phv [1, 1, 1, 1, 1, 1, 1, 1]) (order.drop 7) (order.drop 8) (dev10_eq c) (off3_eq c 0 3) rfl rfl rfl rfl rfl (by decide)) $$ HS
  iintro HS
  rw [wp_ret]
  imodintro
  iapply Hk
  iexact HS

theorem part16 (c : Dev nD) (v2 : BitVec 32) (v13 : BitVec 32) (v531 : BitVec 32) (c0_i32_321 : BitVec 32) {Q'} :
    St m K c (phv [3, 1, 1, 1, 1, 1, 1, 1]) (order.drop 8)
      ⊢ iprop((∀ r, St m K c (phv [4, 1, 1, 1, 3, 1, 1, 1]) (order.drop 9) -∗ Q' r)
          -∗ wp frame (wpE (defs₀ (F := F)) 𝒱₀ (c : Thread nD τ) none) Set.univ
              (k0_part16 a0 h0 a1 h1 a2 h2 a3 h3 a4 h4 yM h5 a6 h6 a7 h7 a8 cc0_scratch5 cc0_scratch6 cc0_scratch7 cc0_scratch8 c v2 v13 v531 c0_i32_321) Q') := by
  rw [k0_part16_eq_skeleton]
  unfold k0_part16_skel
  simp only [Prog.lift, Prog.bind_op, Prog.bind_ret, Prog.pure_eq_ret]
  iintro HS Hk
  iapply (st_send m K c _ false 1 0 (phv [3, 1, 1, 1, 1, 1, 1, 1]) (phv [4, 1, 1, 1, 1, 1, 1, 1]) (order.drop 8) (order.drop 9) (dev11_eq c) (off2_eq c 1 0) rfl rfl rfl rfl rfl (by decide)) $$ HS
  iintro HS
  iapply (st_wait_send m K c true 0 0 (phv [4, 1, 1, 1, 1, 1, 1, 1]) (phv [4, 1, 1, 1, 2, 1, 1, 1]) (order.drop 9) rfl rfl rfl (by decide)) $$ HS
  iintro HS
  iapply (st_wait_recv m K c true 0 0 (phv [4, 1, 1, 1, 2, 1, 1, 1]) (phv [4, 1, 1, 1, 3, 1, 1, 1]) (order.drop 9) rfl (by decide) rfl rfl (by decide)) $$ HS
  iintro HS
  rw [wp_ret]
  imodintro
  iapply Hk
  iexact HS

theorem part17 (c : Dev nD) (v2 : BitVec 32) (v13 : BitVec 32) (v24 : BitVec 32) (v561 : BitVec 32) (c0_i32_348 : BitVec 32) {Q'} :
    St m K c (phv [4, 1, 1, 1, 3, 1, 1, 1]) (order.drop 9)
      ⊢ iprop((∀ r, St m K c (phv [4, 3, 1, 1, 4, 1, 1, 1]) (order.drop 10) -∗ Q' r)
          -∗ wp frame (wpE (defs₀ (F := F)) 𝒱₀ (c : Thread nD τ) none) Set.univ
              (k0_part17 a0 h0 a1 h1 a2 h2 a3 h3 a4 h4 yM h5 a6 h6 a7 h7 a8 cc0_scratch5 cc0_scratch6 cc0_scratch7 cc0_scratch8 c v2 v13 v24 v561 c0_i32_348) Q') := by
  rw [k0_part17_eq_skeleton]
  unfold k0_part17_skel
  simp only [Prog.lift, Prog.bind_op, Prog.bind_ret, Prog.pure_eq_ret]
  iintro HS Hk
  iapply (st_send m K c _ true 1 0 (phv [4, 1, 1, 1, 3, 1, 1, 1]) (phv [4, 1, 1, 1, 4, 1, 1, 1]) (order.drop 9) (order.drop 10) (dev12_eq c) (off3_eq c 1 0) rfl rfl rfl rfl rfl (by decide)) $$ HS
  iintro HS
  iapply (st_wait_send m K c false 0 1 (phv [4, 1, 1, 1, 4, 1, 1, 1]) (phv [4, 2, 1, 1, 4, 1, 1, 1]) (order.drop 10) rfl rfl rfl (by decide)) $$ HS
  iintro HS
  iapply (st_wait_recv m K c false 0 1 (phv [4, 2, 1, 1, 4, 1, 1, 1]) (phv [4, 3, 1, 1, 4, 1, 1, 1]) (order.drop 10) rfl (by decide) rfl rfl (by decide)) $$ HS
  iintro HS
  rw [wp_ret]
  imodintro
  iapply Hk
  iexact HS

theorem part18 (c : Dev nD) (v2 : BitVec 32) (v13 : BitVec 32) (v24 : BitVec 32) (v583 : BitVec 32) (v584 : BitVec 32) (v585 : BitVec 1) (v588 : BitVec 1) {Q'} :
    St m K c (phv [4, 3, 1, 1, 4, 1, 1, 1]) (order.drop 10)
      ⊢ iprop((∀ r, St m K c (phv [4, 4, 1, 1, 4, 3, 1, 1]) (order.drop 11) -∗ Q' r)
          -∗ wp frame (wpE (defs₀ (F := F)) 𝒱₀ (c : Thread nD τ) none) Set.univ
              (k0_part18 a0 h0 a1 h1 a2 h2 a3 h3 a4 h4 yM h5 a6 h6 a7 h7 a8 cc0_scratch5 cc0_scratch6 cc0_scratch7 cc0_scratch8 c v2 v13 v24 v583 v584 v585 v588) Q') := by
  rw [k0_part18_eq_skeleton]
  unfold k0_part18_skel
  simp only [Prog.lift, Prog.bind_op, Prog.bind_ret, Prog.pure_eq_ret]
  iintro HS Hk
  iapply (st_send m K c _ false 1 1 (phv [4, 3, 1, 1, 4, 1, 1, 1]) (phv [4, 4, 1, 1, 4, 1, 1, 1]) (order.drop 10) (order.drop 11) (dev13_eq c) (off2_eq c 1 1) rfl rfl rfl rfl rfl (by decide)) $$ HS
  iintro HS
  iapply (st_wait_send m K c true 0 1 (phv [4, 4, 1, 1, 4, 1, 1, 1]) (phv [4, 4, 1, 1, 4, 2, 1, 1]) (order.drop 11) rfl rfl rfl (by decide)) $$ HS
  iintro HS
  iapply (st_wait_recv m K c true 0 1 (phv [4, 4, 1, 1, 4, 2, 1, 1]) (phv [4, 4, 1, 1, 4, 3, 1, 1]) (order.drop 11) rfl (by decide) rfl rfl (by decide)) $$ HS
  iintro HS
  rw [wp_ret]
  imodintro
  iapply Hk
  iexact HS

theorem part19 (c : Dev nD) (v13 : BitVec 32) (v24 : BitVec 32) (v613 : BitVec 32) (v615 : BitVec 32) {Q'} :
    St m K c (phv [4, 4, 1, 1, 4, 3, 1, 1]) (order.drop 11)
      ⊢ iprop((∀ r, St m K c (phv [4, 4, 2, 1, 4, 4, 1, 1]) (order.drop 12) -∗ Q' r)
          -∗ wp frame (wpE (defs₀ (F := F)) 𝒱₀ (c : Thread nD τ) none) Set.univ
              (k0_part19 a0 h0 a1 h1 a2 h2 a3 h3 a4 h4 yM h5 a6 h6 a7 h7 a8 cc0_scratch5 cc0_scratch6 cc0_scratch7 cc0_scratch8 c v13 v24 v613 v615) Q') := by
  rw [k0_part19_eq_skeleton]
  unfold k0_part19_skel
  simp only [Prog.lift, Prog.bind_op, Prog.bind_ret, Prog.pure_eq_ret]
  iintro HS Hk
  iapply (st_send m K c _ true 1 1 (phv [4, 4, 1, 1, 4, 3, 1, 1]) (phv [4, 4, 1, 1, 4, 4, 1, 1]) (order.drop 11) (order.drop 12) (dev14_eq c) (off3_eq c 1 1) rfl rfl rfl rfl rfl (by decide)) $$ HS
  iintro HS
  iapply (st_wait_send m K c false 0 2 (phv [4, 4, 1, 1, 4, 4, 1, 1]) (phv [4, 4, 2, 1, 4, 4, 1, 1]) (order.drop 12) rfl rfl rfl (by decide)) $$ HS
  iintro HS
  rw [wp_ret]
  imodintro
  iapply Hk
  iexact HS

theorem part20 (c : Dev nD) (v2 : BitVec 32) (v13 : BitVec 32) (v24 : BitVec 32) {Q'} :
    St m K c (phv [4, 4, 2, 1, 4, 4, 1, 1]) (order.drop 12)
      ⊢ iprop((∀ r, St m K c (phv [4, 4, 4, 1, 4, 4, 2, 1]) (order.drop 13) -∗ Q' r)
          -∗ wp frame (wpE (defs₀ (F := F)) 𝒱₀ (c : Thread nD τ) none) Set.univ
              (k0_part20 a0 h0 a1 h1 a2 h2 a3 h3 a4 h4 yM h5 a6 h6 a7 h7 a8 cc0_scratch5 cc0_scratch6 cc0_scratch7 cc0_scratch8 c v2 v13 v24) Q') := by
  rw [k0_part20_eq_skeleton]
  unfold k0_part20_skel
  simp only [Prog.lift, Prog.bind_op, Prog.bind_ret, Prog.pure_eq_ret]
  iintro HS Hk
  iapply (st_wait_recv m K c false 0 2 (phv [4, 4, 2, 1, 4, 4, 1, 1]) (phv [4, 4, 3, 1, 4, 4, 1, 1]) (order.drop 12) rfl (by decide) rfl rfl (by decide)) $$ HS
  iintro HS
  iapply (st_send m K c _ false 1 2 (phv [4, 4, 3, 1, 4, 4, 1, 1]) (phv [4, 4, 4, 1, 4, 4, 1, 1]) (order.drop 12) (order.drop 13) (dev15_eq c) (off2_eq c 1 2) rfl rfl rfl rfl rfl (by decide)) $$ HS
  iintro HS
  iapply (st_wait_send m K c true 0 2 (phv [4, 4, 4, 1, 4, 4, 1, 1]) (phv [4, 4, 4, 1, 4, 4, 2, 1]) (order.drop 13) rfl rfl rfl (by decide)) $$ HS
  iintro HS
  rw [wp_ret]
  imodintro
  iapply Hk
  iexact HS

theorem part21 (c : Dev nD) (v2 : BitVec 32) (v13 : BitVec 32) (v671 : BitVec 32) {Q'} :
    St m K c (phv [4, 4, 4, 1, 4, 4, 2, 1]) (order.drop 13)
      ⊢ iprop((∀ r, St m K c (phv [4, 4, 4, 1, 4, 4, 4, 1]) (order.drop 14) -∗ Q' r)
          -∗ wp frame (wpE (defs₀ (F := F)) 𝒱₀ (c : Thread nD τ) none) Set.univ
              (k0_part21 a0 h0 a1 h1 a2 h2 a3 h3 a4 h4 yM h5 a6 h6 a7 h7 a8 cc0_scratch5 cc0_scratch6 cc0_scratch7 cc0_scratch8 c v2 v13 v671) Q') := by
  rw [k0_part21_eq_skeleton]
  unfold k0_part21_skel
  simp only [Prog.lift, Prog.bind_op, Prog.bind_ret, Prog.pure_eq_ret]
  iintro HS Hk
  iapply (st_wait_recv m K c true 0 2 (phv [4, 4, 4, 1, 4, 4, 2, 1]) (phv [4, 4, 4, 1, 4, 4, 3, 1]) (order.drop 13) rfl (by decide) rfl rfl (by decide)) $$ HS
  iintro HS
  iapply (st_send m K c _ true 1 2 (phv [4, 4, 4, 1, 4, 4, 3, 1]) (phv [4, 4, 4, 1, 4, 4, 4, 1]) (order.drop 13) (order.drop 14) (dev16_eq c) (off3_eq c 1 2) rfl rfl rfl rfl rfl (by decide)) $$ HS
  iintro HS
  rw [wp_ret]
  imodintro
  iapply Hk
  iexact HS

theorem part22 (c : Dev nD) (v2 : BitVec 32) (v24 : BitVec 32) {Q'} :
    St m K c (phv [4, 4, 4, 1, 4, 4, 4, 1]) (order.drop 14)
      ⊢ iprop((∀ r, St m K c (phv [4, 4, 4, 4, 4, 4, 4, 1]) (order.drop 15) -∗ Q' r)
          -∗ wp frame (wpE (defs₀ (F := F)) 𝒱₀ (c : Thread nD τ) none) Set.univ
              (k0_part22 a0 h0 a1 h1 a2 h2 a3 h3 a4 h4 yM h5 a6 h6 a7 h7 a8 cc0_scratch5 cc0_scratch6 cc0_scratch7 cc0_scratch8 c v2 v24) Q') := by
  rw [k0_part22_eq_skeleton]
  unfold k0_part22_skel
  simp only [Prog.lift, Prog.bind_op, Prog.bind_ret, Prog.pure_eq_ret]
  iintro HS Hk
  iapply (st_wait_send m K c false 0 3 (phv [4, 4, 4, 1, 4, 4, 4, 1]) (phv [4, 4, 4, 2, 4, 4, 4, 1]) (order.drop 14) rfl rfl rfl (by decide)) $$ HS
  iintro HS
  iapply (st_wait_recv m K c false 0 3 (phv [4, 4, 4, 2, 4, 4, 4, 1]) (phv [4, 4, 4, 3, 4, 4, 4, 1]) (order.drop 14) rfl (by decide) rfl rfl (by decide)) $$ HS
  iintro HS
  iapply (st_send m K c _ false 1 3 (phv [4, 4, 4, 3, 4, 4, 4, 1]) (phv [4, 4, 4, 4, 4, 4, 4, 1]) (order.drop 14) (order.drop 15) (dev17_eq c) (off2_eq c 1 3) rfl rfl rfl rfl rfl (by decide)) $$ HS
  iintro HS
  rw [wp_ret]
  imodintro
  iapply Hk
  iexact HS

theorem part23 (c : Dev nD) (v2 : BitVec 32) (v13 : BitVec 32) {Q'} :
    St m K c (phv [4, 4, 4, 4, 4, 4, 4, 1]) (order.drop 15)
      ⊢ iprop((∀ r, St m K c (phv [4, 4, 4, 4, 4, 4, 4, 3]) (order.drop 15) -∗ Q' r)
          -∗ wp frame (wpE (defs₀ (F := F)) 𝒱₀ (c : Thread nD τ) none) Set.univ
              (k0_part23 a0 h0 a1 h1 a2 h2 a3 h3 a4 h4 yM h5 a6 h6 a7 h7 a8 cc0_scratch5 cc0_scratch6 cc0_scratch7 cc0_scratch8 c v2 v13) Q') := by
  rw [k0_part23_eq_skeleton]
  unfold k0_part23_skel
  simp only [Prog.lift, Prog.bind_op, Prog.bind_ret, Prog.pure_eq_ret]
  iintro HS Hk
  iapply (st_wait_send m K c true 0 3 (phv [4, 4, 4, 4, 4, 4, 4, 1]) (phv [4, 4, 4, 4, 4, 4, 4, 2]) (order.drop 15) rfl rfl rfl (by decide)) $$ HS
  iintro HS
  iapply (st_wait_recv m K c true 0 3 (phv [4, 4, 4, 4, 4, 4, 4, 2]) (phv [4, 4, 4, 4, 4, 4, 4, 3]) (order.drop 15) rfl (by decide) rfl rfl (by decide)) $$ HS
  iintro HS
  rw [wp_ret]
  imodintro
  iapply Hk
  iexact HS

theorem part24 (c : Dev nD) (v2 : BitVec 32) (v24 : BitVec 32) {Q'} :
    St m K c (phv [4, 4, 4, 4, 4, 4, 4, 3]) (order.drop 15)
      ⊢ iprop((∀ r, St m K c (phv [6, 4, 4, 4, 4, 4, 4, 4]) (order.drop 16) -∗ Q' r)
          -∗ wp frame (wpE (defs₀ (F := F)) 𝒱₀ (c : Thread nD τ) none) Set.univ
              (k0_part24 a0 h0 a1 h1 a2 h2 a3 h3 a4 h4 yM h5 a6 h6 a7 h7 a8 cc0_scratch5 cc0_scratch6 cc0_scratch7 cc0_scratch8 c v2 v24) Q') := by
  rw [k0_part24_eq_skeleton]
  unfold k0_part24_skel
  simp only [Prog.lift, Prog.bind_op, Prog.bind_ret, Prog.pure_eq_ret]
  iintro HS Hk
  iapply (st_send m K c _ true 1 3 (phv [4, 4, 4, 4, 4, 4, 4, 3]) (phv [4, 4, 4, 4, 4, 4, 4, 4]) (order.drop 15) (order.drop 16) (dev18_eq c) (off3_eq c 1 3) rfl rfl rfl rfl rfl (by decide)) $$ HS
  iintro HS
  iapply (st_wait_send m K c false 1 0 (phv [4, 4, 4, 4, 4, 4, 4, 4]) (phv [5, 4, 4, 4, 4, 4, 4, 4]) (order.drop 16) rfl rfl rfl (by decide)) $$ HS
  iintro HS
  iapply (st_wait_recv m K c false 1 0 (phv [5, 4, 4, 4, 4, 4, 4, 4]) (phv [6, 4, 4, 4, 4, 4, 4, 4]) (order.drop 16) rfl (by decide) rfl rfl (by decide)) $$ HS
  iintro HS
  rw [wp_ret]
  imodintro
  iapply Hk
  iexact HS

theorem part25 (c : Dev nD) (v2 : BitVec 32) (v13 : BitVec 32) (v24 : BitVec 32) {Q'} :
    St m K c (phv [6, 4, 4, 4, 4, 4, 4, 4]) (order.drop 16)
      ⊢ iprop((∀ r, St m K c (phv [7, 4, 4, 4, 6, 4, 4, 4]) (order.drop 17) -∗ Q' r)
          -∗ wp frame (wpE (defs₀ (F := F)) 𝒱₀ (c : Thread nD τ) none) Set.univ
              (k0_part25 a0 h0 a1 h1 a2 h2 a3 h3 a4 h4 yM h5 a6 h6 a7 h7 a8 cc0_scratch5 cc0_scratch6 cc0_scratch7 cc0_scratch8 c v2 v13 v24) Q') := by
  rw [k0_part25_eq_skeleton]
  unfold k0_part25_skel
  simp only [Prog.lift, Prog.bind_op, Prog.bind_ret, Prog.pure_eq_ret]
  iintro HS Hk
  iapply (st_send m K c _ false 2 0 (phv [6, 4, 4, 4, 4, 4, 4, 4]) (phv [7, 4, 4, 4, 4, 4, 4, 4]) (order.drop 16) (order.drop 17) (dev19_eq c) (off2_eq c 2 0) rfl rfl rfl rfl rfl (by decide)) $$ HS
  iintro HS
  iapply (st_wait_send m K c true 1 0 (phv [7, 4, 4, 4, 4, 4, 4, 4]) (phv [7, 4, 4, 4, 5, 4, 4, 4]) (order.drop 17) rfl rfl rfl (by decide)) $$ HS
  iintro HS
  iapply (st_wait_recv m K c true 1 0 (phv [7, 4, 4, 4, 5, 4, 4, 4]) (phv [7, 4, 4, 4, 6, 4, 4, 4]) (order.drop 17) rfl (by decide) rfl rfl (by decide)) $$ HS
  iintro HS
  rw [wp_ret]
  imodintro
  iapply Hk
  iexact HS

theorem part26 (c : Dev nD) (v2 : BitVec 32) (v13 : BitVec 32) (v24 : BitVec 32) (v815 : BitVec 32) (c256_i32_610 : BitVec 32) {Q'} :
    St m K c (phv [7, 4, 4, 4, 6, 4, 4, 4]) (order.drop 17)
      ⊢ iprop((∀ r, St m K c (phv [7, 6, 4, 4, 7, 4, 4, 4]) (order.drop 18) -∗ Q' r)
          -∗ wp frame (wpE (defs₀ (F := F)) 𝒱₀ (c : Thread nD τ) none) Set.univ
              (k0_part26 a0 h0 a1 h1 a2 h2 a3 h3 a4 h4 yM h5 a6 h6 a7 h7 a8 cc0_scratch5 cc0_scratch6 cc0_scratch7 cc0_scratch8 c v2 v13 v24 v815 c256_i32_610) Q') := by
  rw [k0_part26_eq_skeleton]
  unfold k0_part26_skel
  simp only [Prog.lift, Prog.bind_op, Prog.bind_ret, Prog.pure_eq_ret]
  iintro HS Hk
  iapply (st_send m K c _ true 2 0 (phv [7, 4, 4, 4, 6, 4, 4, 4]) (phv [7, 4, 4, 4, 7, 4, 4, 4]) (order.drop 17) (order.drop 18) (dev20_eq c) (off3_eq c 2 0) rfl rfl rfl rfl rfl (by decide)) $$ HS
  iintro HS
  iapply (st_wait_send m K c false 1 1 (phv [7, 4, 4, 4, 7, 4, 4, 4]) (phv [7, 5, 4, 4, 7, 4, 4, 4]) (order.drop 18) rfl rfl rfl (by decide)) $$ HS
  iintro HS
  iapply (st_wait_recv m K c false 1 1 (phv [7, 5, 4, 4, 7, 4, 4, 4]) (phv [7, 6, 4, 4, 7, 4, 4, 4]) (order.drop 18) rfl (by decide) rfl rfl (by decide)) $$ HS
  iintro HS
  rw [wp_ret]
  imodintro
  iapply Hk
  iexact HS

theorem part27 (c : Dev nD) (v2 : BitVec 32) (v13 : BitVec 32) (v24 : BitVec 32) (v839 : BitVec 32) (v840 : BitVec 32) (v841 : BitVec 1) (c0_i32_641 : BitVec 32) {Q'} :
    St m K c (phv [7, 6, 4, 4, 7, 4, 4, 4]) (order.drop 18)
      ⊢ iprop((∀ r, St m K c (phv [7, 7, 4, 4, 7, 6, 4, 4]) (order.drop 19) -∗ Q' r)
          -∗ wp frame (wpE (defs₀ (F := F)) 𝒱₀ (c : Thread nD τ) none) Set.univ
              (k0_part27 a0 h0 a1 h1 a2 h2 a3 h3 a4 h4 yM h5 a6 h6 a7 h7 a8 cc0_scratch5 cc0_scratch6 cc0_scratch7 cc0_scratch8 c v2 v13 v24 v839 v840 v841 c0_i32_641) Q') := by
  rw [k0_part27_eq_skeleton]
  unfold k0_part27_skel
  simp only [Prog.lift, Prog.bind_op, Prog.bind_ret, Prog.pure_eq_ret]
  iintro HS Hk
  iapply (st_send m K c _ false 2 1 (phv [7, 6, 4, 4, 7, 4, 4, 4]) (phv [7, 7, 4, 4, 7, 4, 4, 4]) (order.drop 18) (order.drop 19) (dev21_eq c) (off2_eq c 2 1) rfl rfl rfl rfl rfl (by decide)) $$ HS
  iintro HS
  iapply (st_wait_send m K c true 1 1 (phv [7, 7, 4, 4, 7, 4, 4, 4]) (phv [7, 7, 4, 4, 7, 5, 4, 4]) (order.drop 19) rfl rfl rfl (by decide)) $$ HS
  iintro HS
  iapply (st_wait_recv m K c true 1 1 (phv [7, 7, 4, 4, 7, 5, 4, 4]) (phv [7, 7, 4, 4, 7, 6, 4, 4]) (order.drop 19) rfl (by decide) rfl rfl (by decide)) $$ HS
  iintro HS
  rw [wp_ret]
  imodintro
  iapply Hk
  iexact HS

theorem part28 (c : Dev nD) (v13 : BitVec 32) (v24 : BitVec 32) (v869 : BitVec 32) (c4_i32_670 : BitVec 32) {Q'} :
    St m K c (phv [7, 7, 4, 4, 7, 6, 4, 4]) (order.drop 19)
      ⊢ iprop((∀ r, St m K c (phv [7, 7, 5, 4, 7, 7, 4, 4]) (order.drop 20) -∗ Q' r)
          -∗ wp frame (wpE (defs₀ (F := F)) 𝒱₀ (c : Thread nD τ) none) Set.univ
              (k0_part28 a0 h0 a1 h1 a2 h2 a3 h3 a4 h4 yM h5 a6 h6 a7 h7 a8 cc0_scratch5 cc0_scratch6 cc0_scratch7 cc0_scratch8 c v13 v24 v869 c4_i32_670) Q') := by
  rw [k0_part28_eq_skeleton]
  unfold k0_part28_skel
  simp only [Prog.lift, Prog.bind_op, Prog.bind_ret, Prog.pure_eq_ret]
  iintro HS Hk
  iapply (st_send m K c _ true 2 1 (phv [7, 7, 4, 4, 7, 6, 4, 4]) (phv [7, 7, 4, 4, 7, 7, 4, 4]) (order.drop 19) (order.drop 20) (dev22_eq c) (off3_eq c 2 1) rfl rfl rfl rfl rfl (by decide)) $$ HS
  iintro HS
  iapply (st_wait_send m K c false 1 2 (phv [7, 7, 4, 4, 7, 7, 4, 4]) (phv [7, 7, 5, 4, 7, 7, 4, 4]) (order.drop 20) rfl rfl rfl (by decide)) $$ HS
  iintro HS
  rw [wp_ret]
  imodintro
  iapply Hk
  iexact HS

theorem part29 (c : Dev nD) (v2 : BitVec 32) (v24 : BitVec 32) {Q'} :
    St m K c (phv [7, 7, 5, 4, 7, 7, 4, 4]) (order.drop 20)
      ⊢ iprop((∀ r, St m K c (phv [7, 7, 7, 4, 7, 7, 5, 4]) (order.drop 21) -∗ Q' r)
          -∗ wp frame (wpE (defs₀ (F := F)) 𝒱₀ (c : Thread nD τ) none) Set.univ
              (k0_part29 a0 h0 a1 h1 a2 h2 a3 h3 a4 h4 yM h5 a6 h6 a7 h7 a8 cc0_scratch5 cc0_scratch6 cc0_scratch7 cc0_scratch8 c v2 v24) Q') := by
  rw [k0_part29_eq_skeleton]
  unfold k0_part29_skel
  simp only [Prog.lift, Prog.bind_op, Prog.bind_ret, Prog.pure_eq_ret]
  iintro HS Hk
  iapply (st_wait_recv m K c false 1 2 (phv [7, 7, 5, 4, 7, 7, 4, 4]) (phv [7, 7, 6, 4, 7, 7, 4, 4]) (order.drop 20) rfl (by decide) rfl rfl (by decide)) $$ HS
  iintro HS
  iapply (st_send m K c _ false 2 2 (phv [7, 7, 6, 4, 7, 7, 4, 4]) (phv [7, 7, 7, 4, 7, 7, 4, 4]) (order.drop 20) (order.drop 21) (dev23_eq c) (off2_eq c 2 2) rfl rfl rfl rfl rfl (by decide)) $$ HS
  iintro HS
  iapply (st_wait_send m K c true 1 2 (phv [7, 7, 7, 4, 7, 7, 4, 4]) (phv [7, 7, 7, 4, 7, 7, 5, 4]) (order.drop 21) rfl rfl rfl (by decide)) $$ HS
  iintro HS
  rw [wp_ret]
  imodintro
  iapply Hk
  iexact HS

theorem part30 (c : Dev nD) (v2 : BitVec 32) (v13 : BitVec 32) {Q'} :
    St m K c (phv [7, 7, 7, 4, 7, 7, 5, 4]) (order.drop 21)
      ⊢ iprop((∀ r, St m K c (phv [7, 7, 7, 4, 7, 7, 7, 4]) (order.drop 22) -∗ Q' r)
          -∗ wp frame (wpE (defs₀ (F := F)) 𝒱₀ (c : Thread nD τ) none) Set.univ
              (k0_part30 a0 h0 a1 h1 a2 h2 a3 h3 a4 h4 yM h5 a6 h6 a7 h7 a8 cc0_scratch5 cc0_scratch6 cc0_scratch7 cc0_scratch8 c v2 v13) Q') := by
  rw [k0_part30_eq_skeleton]
  unfold k0_part30_skel
  simp only [Prog.lift, Prog.bind_op, Prog.bind_ret, Prog.pure_eq_ret]
  iintro HS Hk
  iapply (st_wait_recv m K c true 1 2 (phv [7, 7, 7, 4, 7, 7, 5, 4]) (phv [7, 7, 7, 4, 7, 7, 6, 4]) (order.drop 21) rfl (by decide) rfl rfl (by decide)) $$ HS
  iintro HS
  iapply (st_send m K c _ true 2 2 (phv [7, 7, 7, 4, 7, 7, 6, 4]) (phv [7, 7, 7, 4, 7, 7, 7, 4]) (order.drop 21) (order.drop 22) (dev24_eq c) (off3_eq c 2 2) rfl rfl rfl rfl rfl (by decide)) $$ HS
  iintro HS
  rw [wp_ret]
  imodintro
  iapply Hk
  iexact HS

theorem part31 (c : Dev nD) (v2 : BitVec 32) (v24 : BitVec 32) {Q'} :
    St m K c (phv [7, 7, 7, 4, 7, 7, 7, 4]) (order.drop 22)
      ⊢ iprop((∀ r, St m K c (phv [7, 7, 7, 6, 7, 7, 7, 4]) (order.drop 22) -∗ Q' r)
          -∗ wp frame (wpE (defs₀ (F := F)) 𝒱₀ (c : Thread nD τ) none) Set.univ
              (k0_part31 a0 h0 a1 h1 a2 h2 a3 h3 a4 h4 yM h5 a6 h6 a7 h7 a8 cc0_scratch5 cc0_scratch6 cc0_scratch7 cc0_scratch8 c v2 v24) Q') := by
  rw [k0_part31_eq_skeleton]
  unfold k0_part31_skel
  simp only [Prog.lift, Prog.bind_op, Prog.bind_ret, Prog.pure_eq_ret]
  iintro HS Hk
  iapply (st_wait_send m K c false 1 3 (phv [7, 7, 7, 4, 7, 7, 7, 4]) (phv [7, 7, 7, 5, 7, 7, 7, 4]) (order.drop 22) rfl rfl rfl (by decide)) $$ HS
  iintro HS
  iapply (st_wait_recv m K c false 1 3 (phv [7, 7, 7, 5, 7, 7, 7, 4]) (phv [7, 7, 7, 6, 7, 7, 7, 4]) (order.drop 22) rfl (by decide) rfl rfl (by decide)) $$ HS
  iintro HS
  rw [wp_ret]
  imodintro
  iapply Hk
  iexact HS

theorem part32 (c : Dev nD) (v2 : BitVec 32) (v13 : BitVec 32) {Q'} :
    St m K c (phv [7, 7, 7, 6, 7, 7, 7, 4]) (order.drop 22)
      ⊢ iprop((∀ r, St m K c (phv [7, 7, 7, 7, 7, 7, 7, 6]) (order.drop 23) -∗ Q' r)
          -∗ wp frame (wpE (defs₀ (F := F)) 𝒱₀ (c : Thread nD τ) none) Set.univ
              (k0_part32 a0 h0 a1 h1 a2 h2 a3 h3 a4 h4 yM h5 a6 h6 a7 h7 a8 cc0_scratch5 cc0_scratch6 cc0_scratch7 cc0_scratch8 c v2 v13) Q') := by
  rw [k0_part32_eq_skeleton]
  unfold k0_part32_skel
  simp only [Prog.lift, Prog.bind_op, Prog.bind_ret, Prog.pure_eq_ret]
  iintro HS Hk
  iapply (st_send m K c _ false 2 3 (phv [7, 7, 7, 6, 7, 7, 7, 4]) (phv [7, 7, 7, 7, 7, 7, 7, 4]) (order.drop 22) (order.drop 23) (dev25_eq c) (off2_eq c 2 3) rfl rfl rfl rfl rfl (by decide)) $$ HS
  iintro HS
  iapply (st_wait_send m K c true 1 3 (phv [7, 7, 7, 7, 7, 7, 7, 4]) (phv [7, 7, 7, 7, 7, 7, 7, 5]) (order.drop 23) rfl rfl rfl (by decide)) $$ HS
  iintro HS
  iapply (st_wait_recv m K c true 1 3 (phv [7, 7, 7, 7, 7, 7, 7, 5]) (phv [7, 7, 7, 7, 7, 7, 7, 6]) (order.drop 23) rfl (by decide) rfl rfl (by decide)) $$ HS
  iintro HS
  rw [wp_ret]
  imodintro
  iapply Hk
  iexact HS

theorem part33 (c : Dev nD) (v13 : BitVec 32) (v24 : BitVec 32) (v1011 : BitVec 32) (c0_i32_816 : BitVec 32) {Q'} :
    St m K c (phv [7, 7, 7, 7, 7, 7, 7, 6]) (order.drop 23)
      ⊢ iprop((∀ r, St m K c (phv [9, 7, 7, 7, 8, 7, 7, 7]) (order.drop 24) -∗ Q' r)
          -∗ wp frame (wpE (defs₀ (F := F)) 𝒱₀ (c : Thread nD τ) none) Set.univ
              (k0_part33 a0 h0 a1 h1 a2 h2 a3 h3 a4 h4 yM h5 a6 h6 a7 h7 a8 cc0_scratch5 cc0_scratch6 cc0_scratch7 cc0_scratch8 c v13 v24 v1011 c0_i32_816) Q') := by
  rw [k0_part33_eq_skeleton]
  unfold k0_part33_skel
  simp only [Prog.lift, Prog.bind_op, Prog.bind_ret, Prog.pure_eq_ret]
  iintro HS Hk
  iapply (st_send m K c _ true 2 3 (phv [7, 7, 7, 7, 7, 7, 7, 6]) (phv [7, 7, 7, 7, 7, 7, 7, 7]) (order.drop 23) (order.drop 24) (dev26_eq c) (off3_eq c 2 3) rfl rfl rfl rfl rfl (by decide)) $$ HS
  iintro HS
  iapply (st_wait_send m K c false 2 0 (phv [7, 7, 7, 7, 7, 7, 7, 7]) (phv [8, 7, 7, 7, 7, 7, 7, 7]) (order.drop 24) rfl rfl rfl (by decide)) $$ HS
  iintro HS
  iapply (st_wait_recv m K c false 2 0 (phv [8, 7, 7, 7, 7, 7, 7, 7]) (phv [9, 7, 7, 7, 7, 7, 7, 7]) (order.drop 24) rfl (by decide) rfl rfl (by decide)) $$ HS
  iintro HS
  iapply (st_wait_send m K c true 2 0 (phv [9, 7, 7, 7, 7, 7, 7, 7]) (phv [9, 7, 7, 7, 8, 7, 7, 7]) (order.drop 24) rfl rfl rfl (by decide)) $$ HS
  iintro HS
  rw [wp_ret]
  imodintro
  iapply Hk
  iexact HS

theorem part34 (c : Dev nD) (v13 : BitVec 32) (v24 : BitVec 32) {Q'} :
    St m K c (phv [9, 7, 7, 7, 8, 7, 7, 7]) (order.drop 24)
      ⊢ iprop((∀ r, St m K c (phv [9, 9, 7, 7, 9, 9, 7, 7]) (order.drop 24) -∗ Q' r)
          -∗ wp frame (wpE (defs₀ (F := F)) 𝒱₀ (c : Thread nD τ) none) Set.univ
              (k0_part34 a0 h0 a1 h1 a2 h2 a3 h3 a4 h4 yM h5 a6 h6 a7 h7 a8 cc0_scratch5 cc0_scratch6 cc0_scratch7 cc0_scratch8 c v13 v24) Q') := by
  rw [k0_part34_eq_skeleton]
  unfold k0_part34_skel
  simp only [Prog.lift, Prog.bind_op, Prog.bind_ret, Prog.pure_eq_ret]
  iintro HS Hk
  iapply (st_wait_recv m K c true 2 0 (phv [9, 7, 7, 7, 8, 7, 7, 7]) (phv [9, 7, 7, 7, 9, 7, 7, 7]) (order.drop 24) rfl (by decide) rfl rfl (by decide)) $$ HS
  iintro HS
  iapply (st_wait_send m K c false 2 1 (phv [9, 7, 7, 7, 9, 7, 7, 7]) (phv [9, 8, 7, 7, 9, 7, 7, 7]) (order.drop 24) rfl rfl rfl (by decide)) $$ HS
  iintro HS
  iapply (st_wait_recv m K c false 2 1 (phv [9, 8, 7, 7, 9, 7, 7, 7]) (phv [9, 9, 7, 7, 9, 7, 7, 7]) (order.drop 24) rfl (by decide) rfl rfl (by decide)) $$ HS
  iintro HS
  iapply (st_wait_send m K c true 2 1 (phv [9, 9, 7, 7, 9, 7, 7, 7]) (phv [9, 9, 7, 7, 9, 8, 7, 7]) (order.drop 24) rfl rfl rfl (by decide)) $$ HS
  iintro HS
  iapply (st_wait_recv m K c true 2 1 (phv [9, 9, 7, 7, 9, 8, 7, 7]) (phv [9, 9, 7, 7, 9, 9, 7, 7]) (order.drop 24) rfl (by decide) rfl rfl (by decide)) $$ HS
  iintro HS
  rw [wp_ret]
  imodintro
  iapply Hk
  iexact HS

theorem part35 (c : Dev nD) (v13 : BitVec 32) (v24 : BitVec 32) {Q'} :
    St m K c (phv [9, 9, 7, 7, 9, 9, 7, 7]) (order.drop 24)
      ⊢ iprop((∀ r, St m K c (phv [9, 9, 9, 7, 9, 9, 9, 7]) (order.drop 24) -∗ Q' r)
          -∗ wp frame (wpE (defs₀ (F := F)) 𝒱₀ (c : Thread nD τ) none) Set.univ
              (k0_part35 a0 h0 a1 h1 a2 h2 a3 h3 a4 h4 yM h5 a6 h6 a7 h7 a8 cc0_scratch5 cc0_scratch6 cc0_scratch7 cc0_scratch8 c v13 v24) Q') := by
  rw [k0_part35_eq_skeleton]
  unfold k0_part35_skel
  simp only [Prog.lift, Prog.bind_op, Prog.bind_ret, Prog.pure_eq_ret]
  iintro HS Hk
  iapply (st_wait_send m K c false 2 2 (phv [9, 9, 7, 7, 9, 9, 7, 7]) (phv [9, 9, 8, 7, 9, 9, 7, 7]) (order.drop 24) rfl rfl rfl (by decide)) $$ HS
  iintro HS
  iapply (st_wait_recv m K c false 2 2 (phv [9, 9, 8, 7, 9, 9, 7, 7]) (phv [9, 9, 9, 7, 9, 9, 7, 7]) (order.drop 24) rfl (by decide) rfl rfl (by decide)) $$ HS
  iintro HS
  iapply (st_wait_send m K c true 2 2 (phv [9, 9, 9, 7, 9, 9, 7, 7]) (phv [9, 9, 9, 7, 9, 9, 8, 7]) (order.drop 24) rfl rfl rfl (by decide)) $$ HS
  iintro HS
  iapply (st_wait_recv m K c true 2 2 (phv [9, 9, 9, 7, 9, 9, 8, 7]) (phv [9, 9, 9, 7, 9, 9, 9, 7]) (order.drop 24) rfl (by decide) rfl rfl (by decide)) $$ HS
  iintro HS
  rw [wp_ret]
  imodintro
  iapply Hk
  iexact HS

end Ring

end Cert.Moe

end
-- ==== Proof.Parts.lean ====
/-
# The kernel's other parts

The parts that load, compute and store: each takes the device's state, with the buffers it reads, to the next.
-/
module

public import proofs.«01_k».proof.Proof.Local
public import proofs.«01_k».proof.Proof.Ring

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev xM : Memref sig .tc .vmem S1024x512 .f32 := Memref.whole cc0_stg0_0
abbrev rM : Memref sig .tc .vmem S1024x1 .i32 := Memref.whole cc0_stg1_0
abbrev oM : Memref sig .tc .vmem S256x1024 .f32 := Memref.whole cc0_stg2_0

/-- The tokens and the routes staged; a buffer at any contents. -/
def xPts (c : Dev nD) : sProp 𝕄 := ((c : Thread nD τ).loc cc0_stg0_0) ↦{fullShare} (xv m c)
def rPts (c : Dev nD) : sProp 𝕄 := ((c : Thread nD τ).loc cc0_stg1_0) ↦{fullShare} (rv m c)
def anyPts (c : Dev nD) (b : Ref sig .tc) : sProp 𝕄 := iprop(∃ f : Buf (Elt F) ((c : Thread nD τ).loc b), ((c : Thread nD τ).loc b) ↦{fullShare} f)

theorem hz2 : (![0, 0] : Fin 2 → ℕ) = fun _ => 0 := funext fun a => by fin_cases a <;> rfl

theorem off1_eq (c : Dev nD) (j : Fin 4) : k0_off1 c (BitVec.ofNat 32 (64 * j.val)) = ![256 * c.val + 64 * j.val, 0] := by
  rw [k0_off1_eq c j]

theorem write_g (f w : S1024x1.Idx → Elt F .f32) : (gM.access (Rect.unit (s := S1024x1) ![0, 0] S1024x1.size inb_S1024x1_S1024x1_0_0)).write (Elt F) f w Finset.univ = w :=
  Memref.write_access_unit_zero_univ (Elt F) cc0_scratch0 hz2 _ f w
theorem write_s (f w : S256x1024.Idx → Elt F .bf16) : (sM.access (Rect.unit (s := S256x1024) ![0, 0] S256x1024.size inb_S256x1024_S256x1024_0_0)).write (Elt F) f w Finset.univ = w :=
  Memref.write_access_unit_zero_univ (Elt F) cc0_scratch2 hz2 _ f w
theorem write_o (f w : S256x1024.Idx → Elt F .f32) : (oM.access (Rect.unit (s := S256x1024) ![0, 0] S256x1024.size inb_S256x1024_S256x1024_0_0)).write (Elt F) f w Finset.univ = w :=
  Memref.write_access_unit_zero_univ (Elt F) cc0_stg2_0 hz2 _ f w
theorem read_x (f : S1024x512.Idx → Elt F .f32) : xM.view.readAt (Elt F) (Rect.unit (s := S1024x512) ![0, 0] S1024x512.size inb_S1024x512_S1024x512_0_0).toLoadRect f = f :=
  Memref.readAt_unit_zero (Elt F) cc0_stg0_0 hz2 _ f
theorem read_r (f : S1024x1.Idx → Elt F .i32) : rM.view.readAt (Elt F) (Rect.unit (s := S1024x1) ![0, 0] S1024x1.size inb_S1024x1_S1024x1_0_0).toLoadRect f = f :=
  Memref.readAt_unit_zero (Elt F) cc0_stg1_0 hz2 _ f
theorem read_s (f : S256x1024.Idx → Elt F .bf16) : sM.view.readAt (Elt F) (Rect.unit (s := S256x1024) ![0, 0] S256x1024.size inb_S256x1024_S256x1024_0_0).toLoadRect f = f :=
  Memref.readAt_unit_zero (Elt F) cc0_scratch2 hz2 _ f
theorem read_y (f : S1024x1024.Idx → Elt F .bf16) : yM.view.readAt (Elt F) (Rect.unit (s := S1024x1024) ![0, 0] S1024x1024.size inb_S1024x1024_S1024x1024_0_0).toLoadRect f = f :=
  Memref.readAt_unit_zero (Elt F) cc0_scratch1 hz2 _ f

section Parts
variable (K : Dev nD × CIx → ℕ)
  {h0 : xM.IsWhole} {h1 : rM.IsWhole} {h2 : hM.IsWhole} {h3 : oM.IsWhole} {h4 : gM.IsWhole} {h5 : yM.IsWhole} {h6 : sM.IsWhole} {h7 : eM.IsWhole}

/-- The device's number, and expert 0's copy started. -/
theorem part1 (c : Dev nD)  {Q'} :
    iprop(records m K ∗ EwA m c 0)
      ⊢ iprop((∀ a b, EwB c 0 -∗ Q' ⟨c, v2w c, a, b⟩)
          -∗ wp frame (wpE (defs₀ (F := F)) 𝒱₀ (c : Thread nD τ) none) Set.univ
              (k0_part1 xM h0 rM h1 hM h2 oM h3 gM h4 yM h5 sM h6 eM h7 cc0_scratch4 cc0_scratch5 cc0_scratch6 cc0_scratch7 cc0_scratch8 ) Q') := by
  rw [k0_part1_eq_skeleton]
  unfold k0_part1_skel
  simp only [semSignalWord, semWaitWord, Prog.lift, Prog.bind_op, Prog.bind_ret, Prog.pure_eq_ret, wp_deviceId]
  iintro H Hk
  iapply (ew_start m K c 0 rfl rfl) $$ H
  iintro H
  rw [wp_ret]
  imodintro
  unfold v2w
  iapply Hk
  iexact H

/-- The other experts' copies started, the neighbours met, the routes read. -/
theorem part2 (c : Dev nD) (a b : BitVec 32) {Q'} :
    iprop(records m K ∗ levAts Lx lv ∗ Chs m c (fun _ => 11) ∗ (∃ W : Waits sig Unit, owes (c : Thread nD τ) (O₀ c) W) ∗ BarA c ∗ EwA m c 1 ∗ EwA m c 2 ∗ EwA m c 3 ∗ rPts m c)
      ⊢ iprop(((St m K c (phv [10, 10, 10, 10, 10, 10, 10, 10]) (order.drop 0) ∗ semVal (barCell c) 0 ∗ EwB c 1 ∗ EwB c 2 ∗ EwB c 3 ∗ rPts m c) -∗ Q' ⟨r55 m c, b4 c⟩)
          -∗ wp frame (wpE (defs₀ (F := F)) 𝒱₀ (c : Thread nD τ) none) Set.univ
              (k0_part2 xM h0 rM h1 hM h2 oM h3 gM h4 yM h5 sM h6 eM h7 cc0_scratch4 cc0_scratch5 cc0_scratch6 cc0_scratch7 cc0_scratch8 c (v2w c) a b) Q') := by
  rw [k0_part2_eq_skeleton]
  unfold k0_part2_skel
  simp only [semSignalWord, semWaitWord, Prog.lift, Prog.bind_op, Prog.bind_ret, Prog.pure_eq_ret, wp_deviceId]
  iintro ⟨#HR, HL, HC, HO, HB, E1, E2, E3, Hr⟩ Hk
  iapply (ew_start m K c 1 rfl rfl) $$ [E1]
  · isplitr; · iexact HR
    iexact E1
  iintro E1
  iapply (ew_start m K c 2 rfl rfl) $$ [E2]
  · isplitr; · iexact HR
    iexact E2
  iintro E2
  iapply (ew_start m K c 3 rfl rfl) $$ [E3]
  · isplitr; · iexact HR
    iexact E3
  iintro E3
  iapply (bar_steps m K c _ _ (dev1_eq c) (dev2_eq c) rfl rfl) $$ [HL HC HO HB]
  · isplitr; · iexact HR
    isplitl [HL]; · iexact HL
    isplitl [HC]; · iexact HC
    isplitl [HO]; · iexact HO
    iexact HB
  iintro ⟨HS, Hz⟩
  unfold rPts
  iapply (wp_load 𝒱₀ (c : Thread nD τ) none Set.univ (m := rM) (Finset.subset_univ _)) $$ Hr
  iintro Hr
  rw [read_r]
  rw [wp_ret]
  imodintro
  unfold r55 b4
  iapply Hk
  isplitl [HS]; · iexact HS
  isplitl [Hz]; · iexact Hz
  isplitl [E1]; · iexact E1
  isplitl [E2]; · iexact E2
  isplitl [E3]; · iexact E3
  iexact Hr

/-- The tokens' places among the device's experts. -/
theorem part3 (c : Dev nD) {Q' : _ → sProp 𝕄} :
    Q' ⟨k0_pay4 (F := F) (r55 m c) (b4 c), k0_pay5 (F := F) (r55 m c) (b4 c), c51⟩
      ⊢ wp frame (wpE (defs₀ (F := F)) 𝒱₀ (c : Thread nD τ) none) Set.univ
          (k0_part3 xM h0 rM h1 hM h2 oM h3 gM h4 yM h5 sM h6 eM h7 cc0_scratch4 cc0_scratch5 cc0_scratch6 cc0_scratch7 cc0_scratch8 (r55 m c) (b4 c)) Q' := by
  rw [k0_part3_eq_skeleton]
  unfold k0_part3_skel
  iintro H
  simp only [Prog.pure_eq_ret]
  rw [wp_ret]
  imodintro
  unfold c51 Scalar.ofBits
  iexact H

/-- The tokens gathered; expert 0 in place. -/
theorem part4 (c : Dev nD)  {Q'} :
    iprop(St m K c (phv [10, 10, 10, 10, 10, 10, 10, 10]) (order.drop 0) ∗ EwB c 0 ∗ xPts m c)
      ⊢ iprop((∀ a, (St m K c (phv [10, 10, 10, 10, 10, 10, 10, 10]) (order.drop 0) ∗ EwC m c 0 ∗ xPts m c) -∗ Q' ⟨a, Xc m c, k0_pay7 (k0_pay4 (F := F) (r55 m c) (b4 c)) (k0_pay5 (F := F) (r55 m c) (b4 c)) c51 (xv m c)⟩)
          -∗ wp frame (wpE (defs₀ (F := F)) 𝒱₀ (c : Thread nD τ) none) Set.univ
              (k0_part4 xM h0 rM h1 hM h2 oM h3 gM h4 yM h5 sM h6 eM h7 cc0_scratch4 cc0_scratch5 cc0_scratch6 cc0_scratch7 cc0_scratch8 (v2w c) (k0_pay4 (F := F) (r55 m c) (b4 c)) (k0_pay5 (F := F) (r55 m c) (b4 c)) c51) Q') := by
  rw [k0_part4_eq_skeleton]
  unfold k0_part4_skel
  simp only [semSignalWord, semWaitWord, Prog.lift, Prog.bind_op, Prog.bind_ret, Prog.pure_eq_ret, wp_deviceId]
  iintro ⟨HS, HE, Hx⟩ Hk
  unfold xPts
  iapply (wp_load 𝒱₀ (c : Thread nD τ) none Set.univ (m := xM) (Finset.subset_univ _)) $$ Hx
  iintro Hx
  rw [read_x]
  iapply (ew_wait m K c 0 _ _ rfl) $$ [HS HE]
  · isplitl [HS]; · iexact HS
    iexact HE
  iintro ⟨HS, HE⟩
  rw [wp_ret]
  imodintro
  unfold Xc
  iapply Hk
  isplitl [HS]; · iexact HS
  isplitl [HE]; · iexact HE
  iexact Hx

/-- Chunk 0 written and its first half sent. -/
theorem part5 (c : Dev nD) (a b : BitVec 32) {Q'} :
    iprop(St m K c (phv [10, 10, 10, 10, 10, 10, 10, 10]) (order.drop 0) ∗ EwC m c 0)
      ⊢ iprop((∀ r, (St m K c (phv [1, 0, 10, 10, 10, 10, 10, 10]) (order.drop 1) ∗ EwC m c 0) -∗ Q' r)
          -∗ wp frame (wpE (defs₀ (F := F)) 𝒱₀ (c : Thread nD τ) none) Set.univ
              (k0_part5 xM h0 rM h1 hM h2 oM h3 gM h4 yM h5 sM h6 eM h7 cc0_scratch4 cc0_scratch5 cc0_scratch6 cc0_scratch7 cc0_scratch8 c (v2w c) a b (k0_pay7 (k0_pay4 (F := F) (r55 m c) (b4 c)) (k0_pay5 (F := F) (r55 m c) (b4 c)) c51 (xv m c))) Q') := by
  rw [k0_part5_eq_skeleton]
  unfold k0_part5_skel
  simp only [semSignalWord, semWaitWord, Prog.lift, Prog.bind_op, Prog.bind_ret, Prog.pure_eq_ret, wp_deviceId]
  iintro ⟨HS, HE⟩ Hk
  iapply (ew_load m c 0 rfl) $$ HE
  iintro HE
  iapply (st_chunk m K c 0 (phv [10, 10, 10, 10, 10, 10, 10, 10]) (phv [0, 0, 10, 10, 10, 10, 10, 10]) (order.drop 0) (off1_eq c 0) rfl rfl rfl rfl rfl (by decide) (by decide)) $$ HS
  iintro HS
  iapply (st_send m K c _ false 0 0 (phv [0, 0, 10, 10, 10, 10, 10, 10]) (phv [1, 0, 10, 10, 10, 10, 10, 10]) (order.drop 0) (order.drop 1) (dev3_eq c) (off2_eq c 0 0) rfl rfl rfl rfl rfl (by decide)) $$ HS
  iintro HS
  rw [wp_ret]
  imodintro
  iapply Hk
  isplitl [HS]; · iexact HS
  iexact HE

/-- Chunk 0's second half sent; expert 1 applied. -/
theorem part6 (c : Dev nD) (a v177 c4 : BitVec 32) (v178 : BitVec 1) {Q'} :
    iprop(St m K c (phv [1, 0, 10, 10, 10, 10, 10, 10]) (order.drop 1) ∗ EwB c 1)
      ⊢ iprop((∀ b, (St m K c (phv [1, 1, 10, 10, 10, 10, 10, 10]) (order.drop 2) ∗ EwC m c 1) -∗ Q' ⟨k0_pay9 (Xc m c) (ewv m c 1), b⟩)
          -∗ wp frame (wpE (defs₀ (F := F)) 𝒱₀ (c : Thread nD τ) none) Set.univ
              (k0_part6 xM h0 rM h1 hM h2 oM h3 gM h4 yM h5 sM h6 eM h7 cc0_scratch4 cc0_scratch5 cc0_scratch6 cc0_scratch7 cc0_scratch8 c a (Xc m c) v177 c4 v178) Q') := by
  rw [k0_part6_eq_skeleton]
  unfold k0_part6_skel
  simp only [semSignalWord, semWaitWord, Prog.lift, Prog.bind_op, Prog.bind_ret, Prog.pure_eq_ret, wp_deviceId]
  iintro ⟨HS, HE⟩ Hk
  iapply (st_send m K c _ false 0 1 (phv [1, 0, 10, 10, 10, 10, 10, 10]) (phv [1, 1, 10, 10, 10, 10, 10, 10]) (order.drop 1) (order.drop 2) (dev4_eq c) (off2_eq c 0 1) rfl rfl rfl rfl rfl (by decide)) $$ HS
  iintro HS
  iapply (ew_wait m K c 1 _ _ rfl) $$ [HS HE]
  · isplitl [HS]; · iexact HS
    iexact HE
  iintro ⟨HS, HE⟩
  iapply (ew_load m c 1 rfl) $$ HE
  iintro HE
  rw [wp_ret]
  imodintro
  iapply Hk
  isplitl [HS]; · iexact HS
  iexact HE

/-- Chunk 1 written and its first half sent. -/
theorem part7 (c : Dev nD) (a b c64 : BitVec 32) {Q'} :
    St m K c (phv [1, 1, 10, 10, 10, 10, 10, 10]) (order.drop 2)
      ⊢ iprop((∀ r, St m K c (phv [1, 1, 1, 0, 10, 10, 10, 10]) (order.drop 3) -∗ Q' r)
          -∗ wp frame (wpE (defs₀ (F := F)) 𝒱₀ (c : Thread nD τ) none) Set.univ
              (k0_part7 xM h0 rM h1 hM h2 oM h3 gM h4 yM h5 sM h6 eM h7 cc0_scratch4 cc0_scratch5 cc0_scratch6 cc0_scratch7 cc0_scratch8 c (v2w c) a b (k0_pay9 (Xc m c) (ewv m c 1)) c64) Q') := by
  rw [k0_part7_eq_skeleton]
  unfold k0_part7_skel
  simp only [semSignalWord, semWaitWord, Prog.lift, Prog.bind_op, Prog.bind_ret, Prog.pure_eq_ret, wp_deviceId]
  iintro HS Hk
  iapply (st_chunk m K c 1 (phv [1, 1, 10, 10, 10, 10, 10, 10]) (phv [1, 1, 0, 0, 10, 10, 10, 10]) (order.drop 2) (off1_eq c 1) rfl rfl rfl rfl rfl (by decide) (by decide)) $$ HS
  iintro HS
  iapply (st_send m K c _ false 0 2 (phv [1, 1, 0, 0, 10, 10, 10, 10]) (phv [1, 1, 1, 0, 10, 10, 10, 10]) (order.drop 2) (order.drop 3) (dev5_eq c) (off2_eq c 0 2) rfl rfl rfl rfl rfl (by decide)) $$ HS
  iintro HS
  rw [wp_ret]
  imodintro
  iapply Hk
  iexact HS

/-- Chunk 1's second half sent; chunk 2 written. -/
theorem part8 (c : Dev nD) (a b v239 v240 : BitVec 32) (v241 v242 : BitVec 1) {Q'} :
    iprop(St m K c (phv [1, 1, 1, 0, 10, 10, 10, 10]) (order.drop 3) ∗ EwB c 2)
      ⊢ iprop((∀ r, (St m K c (phv [1, 1, 1, 1, 0, 0, 10, 10]) (order.drop 4) ∗ EwC m c 2) -∗ Q' r)
          -∗ wp frame (wpE (defs₀ (F := F)) 𝒱₀ (c : Thread nD τ) none) Set.univ
              (k0_part8 xM h0 rM h1 hM h2 oM h3 gM h4 yM h5 sM h6 eM h7 cc0_scratch4 cc0_scratch5 cc0_scratch6 cc0_scratch7 cc0_scratch8 c a b (Xc m c) v239 v240 v241 v242) Q') := by
  rw [k0_part8_eq_skeleton]
  unfold k0_part8_skel
  simp only [semSignalWord, semWaitWord, Prog.lift, Prog.bind_op, Prog.bind_ret, Prog.pure_eq_ret, wp_deviceId]
  iintro ⟨HS, HE⟩ Hk
  iapply (st_send m K c _ false 0 3 (phv [1, 1, 1, 0, 10, 10, 10, 10]) (phv [1, 1, 1, 1, 10, 10, 10, 10]) (order.drop 3) (order.drop 4) (dev6_eq c) (off2_eq c 0 3) rfl rfl rfl rfl rfl (by decide)) $$ HS
  iintro HS
  iapply (ew_wait m K c 2 _ _ rfl) $$ [HS HE]
  · isplitl [HS]; · iexact HS
    iexact HE
  iintro ⟨HS, HE⟩
  iapply (ew_load m c 2 rfl) $$ HE
  iintro HE
  iapply (st_chunk m K c 2 (phv [1, 1, 1, 1, 10, 10, 10, 10]) (phv [1, 1, 1, 1, 0, 0, 10, 10]) (order.drop 4) (off1_eq c 2) rfl rfl rfl rfl rfl (by decide) (by decide)) $$ HS
  iintro HS
  rw [wp_ret]
  imodintro
  iapply Hk
  isplitl [HS]; · iexact HS
  iexact HE

/-- Chunk 2's second half sent; chunk 3 written. -/
theorem part10 (c : Dev nD) (v2 v13 v128 v307 c256 : BitVec 32) {Q'} :
    iprop(St m K c (phv [1, 1, 1, 1, 1, 0, 10, 10]) (order.drop 5) ∗ EwB c 3)
      ⊢ iprop((∀ r, (St m K c (phv [1, 1, 1, 1, 1, 1, 0, 0]) (order.drop 6) ∗ EwC m c 3) -∗ Q' r)
          -∗ wp frame (wpE (defs₀ (F := F)) 𝒱₀ (c : Thread nD τ) none) Set.univ
              (k0_part10 xM h0 rM h1 hM h2 oM h3 gM h4 yM h5 sM h6 eM h7 cc0_scratch4 cc0_scratch5 cc0_scratch6 cc0_scratch7 cc0_scratch8 c v2 v13 v128 (Xc m c) v307 c256) Q') := by
  rw [k0_part10_eq_skeleton]
  unfold k0_part10_skel
  simp only [semSignalWord, semWaitWord, Prog.lift, Prog.bind_op, Prog.bind_ret, Prog.pure_eq_ret, wp_deviceId]
  iintro ⟨HS, HE⟩ Hk
  iapply (st_send m K c _ true 0 1 (phv [1, 1, 1, 1, 1, 0, 10, 10]) (phv [1, 1, 1, 1, 1, 1, 10, 10]) (order.drop 5) (order.drop 6) (dev8_eq c) (off3_eq c 0 1) rfl rfl rfl rfl rfl (by decide)) $$ HS
  iintro HS
  iapply (ew_wait m K c 3 _ _ rfl) $$ [HS HE]
  · isplitl [HS]; · iexact HS
    iexact HE
  iintro ⟨HS, HE⟩
  iapply (ew_load m c 3 rfl) $$ HE
  iintro HE
  iapply (st_chunk m K c 3 (phv [1, 1, 1, 1, 1, 1, 10, 10]) (phv [1, 1, 1, 1, 1, 1, 0, 0]) (order.drop 6) (off1_eq c 3) rfl rfl rfl rfl rfl (by decide) (by decide)) $$ HS
  iintro HS
  rw [wp_ret]
  imodintro
  iapply Hk
  isplitl [HS]; · iexact HS
  iexact HE

/-- The selection of a device's tokens, once read out of the slots. -/
def sel0 (c : Dev nD) : FVec F S256x1024 .bf16 :=
  k0_pay23 (gM.view.readAt (Elt F) (Rect.unit (s := S1024x1) (k0_off4 c) S256x1.size (k0_off4_inb c)).toLoadRect (gslv m c))

/-- Every token's rank and slot, in parts. -/
theorem part13 (c : Dev nD) {Q' : _ → sProp 𝕄} :
    Q' ⟨k0_pay17 (F := F) (k0_pay13 (r55 m c)) (k0_pay14 (r55 m c)), k0_pay18 (F := F) (k0_pay13 (r55 m c)) (k0_pay14 (r55 m c)), k0_pay19 (F := F) (r55 m c), 4#32, k0_pay20 (r55 m c), k0_pay21 (r55 m c)⟩
      ⊢ wp frame (wpE (defs₀ (F := F)) 𝒱₀ (c : Thread nD τ) none) Set.univ
          (k0_part13 xM h0 rM h1 hM h2 oM h3 gM h4 yM h5 sM h6 eM h7 cc0_scratch4 cc0_scratch5 cc0_scratch6 cc0_scratch7 cc0_scratch8 (r55 m c) (k0_pay13 (r55 m c)) (k0_pay14 (r55 m c))) Q' := by
  rw [k0_part13_eq_skeleton]
  unfold k0_part13_skel
  iintro H
  simp only [Prog.pure_eq_ret]
  rw [wp_ret]
  imodintro

  iexact H

/-- The slots stored, the device's own tokens' read back. -/
theorem part14 (c : Dev nD) (v2 : BitVec 32) {Q'} :
    iprop(anyPts (F := F) c cc0_scratch0 ∗ anyPts (F := F) c cc0_scratch2)
      ⊢ iprop(((anyPts (F := F) c cc0_scratch0 ∗ anyPts (F := F) c cc0_scratch2) -∗ Q' (sel0 m c))
          -∗ wp frame (wpE (defs₀ (F := F)) 𝒱₀ (c : Thread nD τ) none) Set.univ
              (k0_part14 xM h0 rM h1 hM h2 oM h3 gM h4 yM h5 sM h6 eM h7 cc0_scratch4 cc0_scratch5 cc0_scratch6 cc0_scratch7 cc0_scratch8 c v2 (r55 m c) (k0_pay17 (F := F) (k0_pay13 (r55 m c)) (k0_pay14 (r55 m c))) (k0_pay18 (F := F) (k0_pay13 (r55 m c)) (k0_pay14 (r55 m c))) (k0_pay19 (F := F) (r55 m c)) 4#32 (k0_pay20 (r55 m c)) (k0_pay21 (r55 m c))) Q') := by
  rw [k0_part14_eq_skeleton]
  unfold k0_part14_skel
  simp only [semSignalWord, semWaitWord, Prog.lift, Prog.bind_op, Prog.bind_ret, Prog.pure_eq_ret, wp_deviceId]
  unfold anyPts
  iintro ⟨⟨%f, Hg⟩, %f', Hs⟩ Hk
  iapply (wp_load 𝒱₀ (c : Thread nD τ) none Set.univ (m := gM) (Finset.subset_univ _)) $$ Hg
  iintro Hg
  iapply (wp_store 𝒱₀ (c : Thread nD τ) none Set.univ (m := gM) (r := Rect.unit (s := S1024x1) ![0, 0] S1024x1.size inb_S1024x1_S1024x1_0_0) (Mk := Finset.univ) (Finset.subset_univ _)) $$ Hg
  iintro Hg
  ihave Hg := (Entails.of_eq (congrArg (fun z => (((c : Thread nD τ).loc cc0_scratch0) ↦{fullShare} z : sProp 𝕄)) (write_g f _))) $$ Hg
  iapply (wp_load 𝒱₀ (c : Thread nD τ) none Set.univ (m := gM) (Finset.subset_univ _)) $$ Hg
  iintro Hg
  iapply (wp_load 𝒱₀ (c : Thread nD τ) none Set.univ (m := sM) (Finset.subset_univ _)) $$ Hs
  iintro Hs
  rw [wp_ret]
  imodintro
  unfold sel0 gslv
  iapply Hk
  isplitl [Hg]; · iexists _; iexact Hg
  iexists _; iexact Hs

/-- The selection stored. -/
def sPts (c : Dev nD) : sProp 𝕄 := ((c : Thread nD τ).loc cc0_scratch2) ↦{fullShare} (selv m c)

/-- The selection stored; the first rows received. -/
theorem part15 (c : Dev nD) (v2 v24 : BitVec 32) {Q'} :
    iprop(St m K c (phv [1, 1, 1, 1, 1, 1, 1, 1]) (order.drop 8) ∗ anyPts (F := F) c cc0_scratch2)
      ⊢ iprop((∀ r, (St m K c (phv [3, 1, 1, 1, 1, 1, 1, 1]) (order.drop 8) ∗ sPts m c) -∗ Q' r)
          -∗ wp frame (wpE (defs₀ (F := F)) 𝒱₀ (c : Thread nD τ) none) Set.univ
              (k0_part15 xM h0 rM h1 hM h2 oM h3 gM h4 yM h5 sM h6 eM h7 cc0_scratch4 cc0_scratch5 cc0_scratch6 cc0_scratch7 cc0_scratch8 c v2 v24 (sel0 m c)) Q') := by
  rw [k0_part15_eq_skeleton]
  unfold k0_part15_skel
  simp only [semSignalWord, semWaitWord, Prog.lift, Prog.bind_op, Prog.bind_ret, Prog.pure_eq_ret, wp_deviceId]
  unfold anyPts
  iintro ⟨HS, %f, Hs⟩ Hk
  iapply (wp_store 𝒱₀ (c : Thread nD τ) none Set.univ (m := sM) (r := Rect.unit (s := S256x1024) ![0, 0] S256x1024.size inb_S256x1024_S256x1024_0_0) (Mk := Finset.univ) (Finset.subset_univ _)) $$ Hs
  iintro Hs
  ihave Hs := (Entails.of_eq (congrArg (fun z => (((c : Thread nD τ).loc cc0_scratch2) ↦{fullShare} z : sProp 𝕄)) (write_s f _))) $$ Hs
  iapply (st_wait_send m K c false 0 0 (phv [1, 1, 1, 1, 1, 1, 1, 1]) (phv [2, 1, 1, 1, 1, 1, 1, 1]) (order.drop 8) rfl rfl rfl (by decide)) $$ HS
  iintro HS
  iapply (st_wait_recv m K c false 0 0 (phv [2, 1, 1, 1, 1, 1, 1, 1]) (phv [3, 1, 1, 1, 1, 1, 1, 1]) (order.drop 8) rfl (by decide) rfl rfl (by decide)) $$ HS
  iintro HS
  rw [wp_ret]
  imodintro
  unfold sPts selv sel0
  iapply Hk
  isplitl [HS]; · iexact HS
  iexact Hs

end Parts

end Cert.Moe

end
-- ==== Proof.Body.lean ====
/-
# The kernel's body

What a device holds before and after the body, and the body's run from the one to the other.
-/
module

public import proofs.«01_k».proof.Proof.Parts

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- All of a device's transfer semaphores at zero. -/
def Zs (c : Dev nD) : sProp 𝕄 := bigSep Finset.univ fun t : T => dn (F := F) c t
def yPts (c : Dev nD) : sProp 𝕄 := ((c : Thread nD τ).loc cc0_scratch1) ↦{fullShare} (YA m)

theorem sep_of_four (c : Dev nD) (L : Bool) (g : Fin 4) :
    Ch (F := F) m c L g 9 ⊢ iprop((bigSep Finset.univ fun k : Fin 4 => segPts c (org c L k) L g (YA m)) ∗ bigSep Finset.univ fun h : Fin 3 => dn (F := F) c (L, h, g)) := by
  rw [sep4, sep3]
  show iprop(sg m c L g 3 ∗ (dn c (L, 0, g) ∗ sg m c L g 0) ∗ (dn c (L, 1, g) ∗ sg m c L g 1) ∗ dn c (L, 2, g) ∗ sg m c L g 2) ⊢ _
  unfold sg
  iintro ⟨S3, ⟨D0, S0⟩, ⟨D1, S1⟩, D2, S2⟩
  isplitl [S0 S1 S2 S3]
  · isplitl [S0]; · iexact S0
    isplitl [S1]; · iexact S1
    isplitl [S2]; · iexact S2
    iexact S3
  isplitl [D0]; · iexact D0
  isplitl [D1]; · iexact D1
  iexact D2

/-- All rows in place are the table. -/
theorem chs_done (c : Dev nD) : Chs m c (phv [9, 9, 9, 9, 9, 9, 9, 9]) ⊢ iprop(yPts m c ∗ Zs (F := F) c) := by
  rw [show phv [9, 9, 9, 9, 9, 9, 9, 9] = fun _ => 9 from funext (by decide)]
  unfold Chs
  refine (bigSep_mono fun q _ => sep_of_four m c q.1 q.2).trans ?_
  refine (Entails.of_eq (bigSep_sep' _ _ _)).trans ?_
  unfold yPts Zs
  rw [regroup (fun L (k : Fin 4) g => segPts c (org c L k) L g (YA m)), regroup (fun L (h : Fin 3) g => dn (F := F) c (L, h, g))]
  refine BIClass.sep_mono (Entails.of_eq ?_) .rfl
  rw [← seg_cover c]
  exact (pointsTo_biUnion (ℓ := (c : Thread nD τ).loc cc0_scratch1) Finset.univ (segOf c) (fun t ht t' ht' hne => seg_disj c ht ht' hne)).symm

section Body
variable (K : Dev nD × CIx → ℕ)
  {h0 : xM.IsWhole} {h1 : rM.IsWhole} {h2 : hM.IsWhole} {h3 : oM.IsWhole} {h4 : gM.IsWhole} {h5 : yM.IsWhole} {h6 : sM.IsWhole} {h7 : eM.IsWhole}

/-- What a device holds before its body, its result's buffer apart. -/
def Pre (c : Dev nD) : sProp 𝕄 :=
  iprop(records m K ∗ levAts Lx lv ∗ Chs m c (fun _ => 11) ∗ (∃ W : Waits sig Unit, owes (c : Thread nD τ) (O₀ c) W) ∗ BarA c
    ∗ EwA m c 0 ∗ EwA m c 1 ∗ EwA m c 2 ∗ EwA m c 3 ∗ xPts m c ∗ rPts m c ∗ anyPts (F := F) c cc0_scratch0 ∗ anyPts (F := F) c cc0_scratch2)
/-- What it holds before its last two waits. -/
def Mid (c : Dev nD) : sProp 𝕄 :=
  iprop(St m K c (phv [9, 9, 9, 9, 9, 9, 9, 7]) (order.drop 24) ∗ semVal (barCell c) 0 ∗ EwC m c 0 ∗ EwC m c 1 ∗ EwC m c 2 ∗ EwC m c 3 ∗ xPts m c ∗ rPts m c
    ∗ anyPts (F := F) c cc0_scratch0 ∗ sPts m c)

/-- The body but its end. -/
theorem part36 (c : Dev nD) {Q'} :
    Pre m K c
      ⊢ iprop((∀ b, Mid m K c -∗ Q' ⟨c, b⟩)
          -∗ wp frame (wpE (defs₀ (F := F)) 𝒱₀ (c : Thread nD τ) none) Set.univ
              (k0_part36 xM h0 rM h1 hM h2 oM h3 gM h4 yM h5 sM h6 eM h7 cc0_scratch4 cc0_scratch5 cc0_scratch6 cc0_scratch7 cc0_scratch8) Q') := by
  rw [k0_part36_eq_skeleton]
  unfold k0_part36_skel Pre
  iintro ⟨#HR, HL, HC, HO, HB, E0, E1, E2, E3, Hx, Hr, Hg, Hs⟩ Hk
  rw [wp_bind]
  iapply (part1 m K c) $$ [E0]
  · isplitr; · iexact HR
    iexact E0
  iintro %a %b E0
  try dsimp only
  rw [wp_bind]
  iapply (part2 m K c _ _) $$ [HL HC HO HB E1 E2 E3 Hr]
  · isplitr; · iexact HR
    isplitl [HL]; · iexact HL
    isplitl [HC]; · iexact HC
    isplitl [HO]; · iexact HO
    isplitl [HB]; · iexact HB
    isplitl [E1]; · iexact E1
    isplitl [E2]; · iexact E2
    isplitl [E3]; · iexact E3
    iexact Hr
  iintro ⟨HS, Hz, E1, E2, E3, Hr⟩
  try dsimp only
  rw [wp_bind]
  iapply (part3 m c)
  try dsimp only
  rw [wp_bind]
  iapply (part4 m K c) $$ [HS E0 Hx]
  · isplitl [HS]; · iexact HS
    isplitl [E0]; · iexact E0
    iexact Hx
  iintro %a4 ⟨HS, E0, Hx⟩
  try dsimp only
  rw [wp_bind]
  iapply (part5 m K c _ _) $$ [HS E0]
  · isplitl [HS]; · iexact HS
    iexact E0
  iintro %r ⟨HS, E0⟩
  rcases r with ⟨r5_0, r5_1, r5_2⟩
  try dsimp only
  rw [wp_bind]
  iapply (part6 m K c _ _ _ _) $$ [HS E1]
  · isplitl [HS]; · iexact HS
    iexact E1
  iintro %b6 ⟨HS, E1⟩
  try dsimp only
  rw [wp_bind]
  iapply (part7 m K c _ _ _) $$ HS
  iintro %r HS
  rcases r with ⟨r7_0, r7_1, r7_2, r7_3⟩
  try dsimp only
  rw [wp_bind]
  iapply (part8 m K c _ _ _ _ _ _) $$ [HS E2]
  · isplitl [HS]; · iexact HS
    iexact E2
  iintro %r ⟨HS, E2⟩
  try dsimp only
  rw [wp_bind]
  iapply (part9 m K c _ _) $$ HS
  iintro %r HS
  rcases r with ⟨r9_0, r9_1⟩
  try dsimp only
  rw [wp_bind]
  iapply (part10 m K c _ _ _ _ _) $$ [HS E3]
  · isplitl [HS]; · iexact HS
    iexact E3
  iintro %r ⟨HS, E3⟩
  rcases r with ⟨r10_0, r10_1⟩
  try dsimp only
  rw [wp_bind]
  iapply (part11 m K c _ _ _ _) $$ HS
  iintro %r HS
  try dsimp only
  rw [wp_bind]
  iapply (part12 m K c _ _) $$ HS
  iintro HS
  try dsimp only
  rw [wp_bind]
  iapply (part13 m c)
  dsimp only
  rw [wp_bind]
  iapply (part14 m c _) $$ [Hg Hs]
  · isplitl [Hg]; · iexact Hg
    iexact Hs
  iintro ⟨Hg, Hs⟩
  rw [wp_bind]
  iapply (part15 m K c _ _) $$ [HS Hs]
  · isplitl [HS]; · iexact HS
    iexact Hs
  iintro %r ⟨HS, Hs⟩
  rcases r with ⟨r15_0, r15_1⟩
  try dsimp only
  rw [wp_bind]
  iapply (part16 m K c _ _ _ _) $$ HS
  iintro %r HS
  rcases r with ⟨r16_0, r16_1⟩
  try dsimp only
  rw [wp_bind]
  iapply (part17 m K c _ _ _ _ _) $$ HS
  iintro %r HS
  rcases r with ⟨r17_0, r17_1, r17_2, r17_3⟩
  try dsimp only
  rw [wp_bind]
  iapply (part18 m K c _ _ _ _ _ _ _) $$ HS
  iintro %r HS
  rcases r with ⟨r18_0, r18_1⟩
  try dsimp only
  rw [wp_bind]
  iapply (part19 m K c _ _ _ _) $$ HS
  iintro %r HS
  try dsimp only
  rw [wp_bind]
  iapply (part20 m K c _ _ _) $$ HS
  iintro %r HS
  try dsimp only
  rw [wp_bind]
  iapply (part21 m K c _ _ _) $$ HS
  iintro %r HS
  try dsimp only
  rw [wp_bind]
  iapply (part22 m K c _ _) $$ HS
  iintro %r HS
  try dsimp only
  rw [wp_bind]
  iapply (part23 m K c _ _) $$ HS
  iintro %r HS
  try dsimp only
  rw [wp_bind]
  iapply (part24 m K c _ _) $$ HS
  iintro %r HS
  try dsimp only
  rw [wp_bind]
  iapply (part25 m K c _ _ _) $$ HS
  iintro %r HS
  rcases r with ⟨r25_0, r25_1⟩
  try dsimp only
  rw [wp_bind]
  iapply (part26 m K c _ _ _ _ _) $$ HS
  iintro %r HS
  rcases r with ⟨r26_0, r26_1, r26_2, r26_3⟩
  try dsimp only
  rw [wp_bind]
  iapply (part27 m K c _ _ _ _ _ _ _) $$ HS
  iintro %r HS
  rcases r with ⟨r27_0, r27_1⟩
  try dsimp only
  rw [wp_bind]
  iapply (part28 m K c _ _ _ _) $$ HS
  iintro %r HS
  try dsimp only
  rw [wp_bind]
  iapply (part29 m K c _ _) $$ HS
  iintro %r HS
  try dsimp only
  rw [wp_bind]
  iapply (part30 m K c _ _) $$ HS
  iintro %r HS
  try dsimp only
  rw [wp_bind]
  iapply (part31 m K c _ _) $$ HS
  iintro %r HS
  try dsimp only
  rw [wp_bind]
  iapply (part32 m K c _ _) $$ HS
  iintro %r HS
  rcases r with ⟨r32_0, r32_1⟩
  try dsimp only
  rw [wp_bind]
  iapply (part33 m K c _ _ _ _) $$ HS
  iintro %r HS
  try dsimp only
  rw [wp_bind]
  iapply (part34 m K c _ _) $$ HS
  iintro %r HS
  try dsimp only
  rw [wp_bind]
  iapply (part35 m K c _ _) $$ HS
  iintro %r HS
  try dsimp only
  simp only [Prog.lift, Prog.bind_op, Prog.bind_ret, Prog.pure_eq_ret]
  iapply (st_wait_send m K c false 2 3 (phv [9, 9, 9, 7, 9, 9, 9, 7]) (phv [9, 9, 9, 8, 9, 9, 9, 7]) (order.drop 24) rfl rfl rfl (by decide)) $$ HS
  iintro HS
  iapply (st_wait_recv m K c false 2 3 (phv [9, 9, 9, 8, 9, 9, 9, 7]) (phv [9, 9, 9, 9, 9, 9, 9, 7]) (order.drop 24) rfl (by decide) rfl rfl (by decide)) $$ HS
  iintro HS
  rw [wp_ret]
  imodintro
  iapply Hk
  unfold Mid
  isplitl [HS]; · iexact HS
  isplitl [Hz]; · iexact Hz
  isplitl [E0]; · iexact E0
  isplitl [E1]; · iexact E1
  isplitl [E2]; · iexact E2
  isplitl [E3]; · iexact E3
  isplitl [Hx]; · iexact Hx
  isplitl [Hr]; · iexact Hr
  isplitl [Hg]; · iexact Hg
  iexact Hs

/-- What it holds after its body, its result's buffer apart. -/
def Post (c : Dev nD) : sProp 𝕄 :=
  iprop((Zs (F := F) c ∗ semVal (barCell c) 0 ∗ Ow c (order.drop 24)) ∗ (EwC m c 0 ∗ EwC m c 1 ∗ EwC m c 2 ∗ EwC m c 3) ∗ xPts m c ∗ rPts m c
    ∗ anyPts (F := F) c cc0_scratch0 ∗ yPts m c ∗ sPts m c)

/-- The body. -/
theorem body_run (c : Dev nD) {Q'} :
    iprop(Pre m K c ∗ anyPts (F := F) c cc0_stg2_0)
      ⊢ iprop((Post m c ∗ (((c : Thread nD τ).loc cc0_stg2_0) ↦{fullShare} (outv m c)) -∗ Q' ⟨⟩)
          -∗ wp frame (wpE (defs₀ (F := F)) 𝒱₀ (c : Thread nD τ) none) Set.univ
              (cc0_body xM h0 rM h1 hM h2 oM h3 gM h4 yM h5 sM h6 eM h7 cc0_scratch4 cc0_scratch5 cc0_scratch6 cc0_scratch7 cc0_scratch8) Q') := by
  rw [cc0_body_eq_skeleton]
  unfold cc0_body_skel anyPts
  iintro ⟨H, %f, Ho⟩ Hk
  rw [wp_bind]
  iapply (part36 m K c) $$ H
  iintro %b H
  try dsimp only
  unfold Mid
  icases H with ⟨HS, Hz, E0, E1, E2, E3, Hx, Hr, Hg, Hs⟩
  simp only [Prog.lift, Prog.bind_op, Prog.bind_ret, Prog.pure_eq_ret]
  iapply (st_wait_send m K c true 2 3 (phv [9, 9, 9, 9, 9, 9, 9, 7]) (phv [9, 9, 9, 9, 9, 9, 9, 8]) (order.drop 24) rfl rfl rfl (by decide)) $$ HS
  iintro HS
  iapply (st_wait_recv m K c true 2 3 (phv [9, 9, 9, 9, 9, 9, 9, 8]) (phv [9, 9, 9, 9, 9, 9, 9, 9]) (order.drop 24) rfl (by decide) rfl rfl (by decide)) $$ HS
  iintro HS
  unfold St
  icases HS with ⟨-, -, HC, HO⟩
  ihave HC := (chs_done m c) $$ HC
  unfold sPts yPts
  icases HC with ⟨Hy, HZ⟩
  iapply (wp_load 𝒱₀ (c : Thread nD τ) none Set.univ (m := sM) (Finset.subset_univ _)) $$ Hs
  iintro Hs
  rw [read_s]
  iapply (wp_load 𝒱₀ (c : Thread nD τ) none Set.univ (m := yM) (Finset.subset_univ _)) $$ Hy
  iintro Hy
  rw [read_y]
  iapply (wp_load 𝒱₀ (c : Thread nD τ) none Set.univ (m := oM) (Finset.subset_univ _)) $$ Ho
  iintro Ho
  iapply (wp_store 𝒱₀ (c : Thread nD τ) none Set.univ (m := oM) (r := Rect.unit (s := S256x1024) ![0, 0] S256x1024.size inb_S256x1024_S256x1024_0_0) (Mk := Finset.univ) (Finset.subset_univ _)) $$ Ho
  iintro Ho
  ihave Ho := (Entails.of_eq (congrArg (fun z => (((c : Thread nD τ).loc cc0_stg2_0) ↦{fullShare} z : sProp 𝕄)) (write_o f _))) $$ Ho
  rw [wp_ret]
  imodintro
  iapply Hk
  isplitr [Ho]
  · unfold Post sPts yPts anyPts
    isplitl [HZ Hz HO]
    · isplitl [HZ]; · iexact HZ
      isplitl [Hz]; · iexact Hz
      iexact HO
    isplitl [E0 E1 E2 E3]
    · isplitl [E0]; · iexact E0
      isplitl [E1]; · iexact E1
      isplitl [E2]; · iexact E2
      iexact E3
    isplitl [Hx]; · iexact Hx
    isplitl [Hr]; · iexact Hr
    isplitl [Hg]; · iexact Hg
    isplitl [Hy]; · iexact Hy
    iexact Hs
  · unfold outv
    iexact Ho

end Body

end Cert.Moe

end
-- ==== Proof.Ghost.lean ====
/-
# Dealing the launch's resources

What the launch gives every device, dealt so that each holds the tokens of what it pays: a barrier's two tokens go to the
two neighbours, a receive's token to the device that sends there.
-/
module

public import proofs.«01_k».proof.Proof.Body

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A `bigSep` over the protocol's semaphores -/

theorem sepC (Φ : CIx → sProp 𝕄) :
    bigSep Finset.univ Φ = iprop(Φ kBar ∗ (bigSep Finset.univ fun j : Fin 4 => Φ (kEw j)) ∗ (bigSep Finset.univ fun t : T => Φ (kSnd t)) ∗ bigSep Finset.univ fun t : T => Φ (kRcv t)) := by
  rw [bigSep_univ_sum, bigSep_univ_sum, bigSep_univ_sum, bigSep_univ_eq_bigSepL [()] (by decide) (by decide) (fun a : Unit => Φ (.inl a))]
  rfl

/-! ## The tokens -/

/-- A device's own cells' tokens: its barrier's two, then one for each of its own semaphores. -/
abbrev TIx : Type := Bool ⊕ OIx
instance : DecidableEq TIx := instDecidableEqSum
def tokK : TIx → CIx × Bool
  | .inl b => (kBar, b)
  | .inr k => (.inr k, false)
theorem tokK_inj : Function.Injective tokK := by
  rintro (b | k) (b' | k') h
  · exact congrArg Sum.inl (Prod.ext_iff.1 h).2
  · exact absurd (Prod.ext_iff.1 h).1 (by simp only [tokK, reduceCtorEq, not_false_eq_true])
  · exact absurd (Prod.ext_iff.1 h).1 (by simp only [tokK, reduceCtorEq, not_false_eq_true])
  · exact congrArg Sum.inr (Sum.inr.inj (Prod.ext_iff.1 h).1)
abbrev tokOf (ci : Dev nD × TIx) : GSem nD τ sig × ℕ × Bool := (kcell (ci.1, (tokK ci.2).1), 0, (tokK ci.2).2)
theorem tokOf_inj : Function.Injective tokOf := fun a b h => by
  have h1 := kcell_inj (Prod.ext_iff.1 h).1
  have h2 : (tokK a.2).2 = (tokK b.2).2 := (Prod.ext_iff.1 (Prod.ext_iff.1 h).2).2
  exact Prod.ext (Prod.ext_iff.1 h1).1 (tokK_inj (Prod.ext (Prod.ext_iff.1 h1).2 h2))

def allCells : Finset (GSem nD τ sig) := Finset.univ.map ⟨kcell, kcell_inj⟩
def allToks : Finset (GSem nD τ sig × ℕ × Bool) := Finset.univ.map ⟨tokOf, tokOf_inj⟩
def u₀ : UU := (initOf (Pipeline.cells cfgs cellOf_inj) (Pipeline.launchToks cfgs cellOf_inj), initOf allCells allToks)

def toks (c : Dev nD) : sProp 𝕄 :=
  iprop((dutyTok ER (barCell c) 0 false ∗ dutyTok ER (barCell c) 0 true) ∗ (bigSep Finset.univ fun j : Fin 4 => dutyTok ER (ewCell c j) 0 false)
    ∗ (bigSep Finset.univ fun t : T => dutyTok ER (sndCell c t) 0 false) ∗ bigSep Finset.univ fun t : T => dutyTok ER (rcvCell c t) 0 false)
def payToks (c : Dev nD) : sProp 𝕄 :=
  iprop((dutyTok ER (barCell (prv c)) 0 false ∗ dutyTok ER (barCell (nxt c)) 0 true) ∗ (bigSep Finset.univ fun j : Fin 4 => dutyTok ER (ewCell c j) 0 false)
    ∗ (bigSep Finset.univ fun t : T => dutyTok ER (sndCell c t) 0 false) ∗ bigSep Finset.univ fun t : T => dutyTok ER (rcvCell (tgt c t.1) t) 0 false)
def poss (c : Dev nD) : sProp 𝕄 := bigSep Finset.univ fun k : CIx => atPos ER (kcell (c, k)) 0 ∅ 0

theorem toks_eq (c : Dev nD) : (bigSep Finset.univ fun i : TIx => (dutyTok ER (tokOf (c, i)).1 (tokOf (c, i)).2.1 (tokOf (c, i)).2.2 : sProp 𝕄)) = toks (F := F) c := by
  rw [bigSep_univ_sum, bigSep_univ_sum, bigSep_univ_sum, sep2]
  rfl

/-- Every barrier token to the neighbour that signals, every receive token to the sender. -/
theorem toks_around : (bigSep Finset.univ fun c : Dev nD => toks (F := F) c) ⊢ bigSep Finset.univ fun c : Dev nD => payToks (F := F) c := by
  unfold toks payToks
  rw [bigSep_sep', bigSep_sep', bigSep_sep', bigSep_sep', bigSep_sep', bigSep_sep', bigSep_sep', bigSep_sep',
    bigSep_univ_comm (fun (c : Dev nD) (t : T) => (dutyTok ER (rcvCell c t) 0 false : sProp 𝕄)),
    bigSep_univ_comm (fun (c : Dev nD) (t : T) => (dutyTok ER (rcvCell (tgt c t.1) t) 0 false : sProp 𝕄)),
    bigSep_univ_equiv (ringE true) (fun c : Dev nD => (dutyTok ER (barCell c) 0 false : sProp 𝕄)),
    bigSep_univ_equiv (ringE false) (fun c : Dev nD => (dutyTok ER (barCell c) 0 true : sProp 𝕄)),
    bigSep_congr (s := Finset.univ) (fun (t : T) _ => bigSep_univ_equiv (ringE t.1) (fun c : Dev nD => (dutyTok ER (rcvCell c t) 0 false : sProp 𝕄)))]
  exact .rfl

/-! ## The invariants allocated -/

/-- What the launch element deals device `c`. -/
def G (c : Dev nD) : sProp 𝕄 :=
  iprop((bigSep Finset.univ fun k : CIx => roundState ER (rd m) (kcell (c, k)) 0)
    ∗ (bigSep Finset.univ fun k : CIx => iprop(atPos ER (kcell (c, k)) 0 ∅ 0 ∗ reached ER (kcell (c, k)) 0)) ∗ toks (F := F) c)
/-- What the devices make of it together. -/
def G' (c : Dev nD) : sProp 𝕄 := iprop(∃ K, records m K ∗ poss (F := F) c ∗ payToks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev ownS (c : Dev nD) : sProp 𝕄 := Pipeline.ownSems0 (Ix := Unit) (Name := ℕ) (U := UU) (Lvl := ℕ) (Val := Elt F) (τ := τ) osem c

theorem ownS_eq (c : Dev nD) : ownS (F := F) c
    = iprop((bigSep Finset.univ fun j : Fin 4 => semVal (ewCell c j) 0) ∗ (bigSep Finset.univ fun t : T => semVal (sndCell c t) 0) ∗ bigSep Finset.univ fun t : T => semVal (rcvCell c t) 0) := by
  unfold ownS Pipeline.ownSems0
  rw [bigSep_univ_sum, bigSep_univ_sum]
  rfl
theorem unscopedS_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : iprop(ownS (F := F) c ∗ unscopedSems0 c) ⊢ (bigSep Finset.univ fun k : CIx => semVal (kcell (c, k)) 0 : sProp 𝕄) := by
  rw [ownS_eq, unscopedS_eq, sepC]
  iintro ⟨H, HB⟩
  isplitl [HB]; · iexact HB
  iexact H

theorem core_alloc (c : Dev nD) :
    iprop(ownS (F := F) c ∗ unscopedSems0 c ∗ G m c)
      ⊢ |={Set.univ}=> iprop((bigSep Finset.univ fun k : CIx => iprop(∃ κ : ℕ, cellInv ER (rd m) κ (kcell (c, k))))
          ∗ (bigSep Finset.univ fun k : CIx => iprop(atPos ER (kcell (c, k)) 0 ∅ 0 ∗ reached ER (kcell (c, k)) 0)) ∗ toks (F := F) c) := by
  unfold G
  iintro ⟨Hos, Hus, Hst, Hat, Htok⟩
  ihave Hv := (sems_eq (F := F) c) $$ [Hos Hus]
  · isplitl [Hos] <;> iassumption
  imod (show iprop((bigSep Finset.univ fun k : CIx => semVal (kcell (c, k)) 0) ∗ bigSep Finset.univ fun k : CIx => roundState ER (rd m) (kcell (c, k)) 0)
      ⊢ (|={Set.univ}=> bigSep Finset.univ fun k : CIx => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_all :
    (bigSep Finset.univ fun c : Dev nD => iprop((bigSep Finset.univ fun k : CIx => iprop(∃ κ : ℕ, cellInv ER (rd m) κ (kcell (c, k))))
          ∗ (bigSep Finset.univ fun k : CIx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CIx => iprop(∃ κ : ℕ, cellInv ER (rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (rd m) κ (kcell ck) : sProp 𝕄))) $$ HI
  icases HK with ⟨%K, #HI⟩
  ihave Htk := (toks_around (F := F)) $$ Htok
  iapply (with_persistent (R := records m K) (Φ := fun c => iprop(poss (F := F) c ∗ payToks (F := F) c)) (Ψ := G' m) fun c _ => by
    unfold G'
    iintro ⟨H1, H2⟩
    iexists K
    isplitl [H1]; · iexact H1
    iexact H2)
  isplitr
  · unfold records; isplitl; · iexact HI
    iexact HR
  · iapply (Entails.of_eq (bigSep_sep' Finset.univ (fun c : Dev nD => poss (F := F) c) payToks).symm)
    isplitl [Hat]; · unfold poss; iexact Hat
    iexact Htk

theorem glob : (bigSep Finset.univ fun c => iprop(ownS (F := F) c ∗ unscopedSems0 c ∗ G m c) : sProp 𝕄) ⊢ |={Set.univ}=> bigSep Finset.univ (G' m) :=
  ((bigSep_mono fun c _ => core_alloc m c).trans (bigSep_fupd _ _)).trans (BI.fupd_mono (ghost_all m))

/-! ## The launch credit -/

theorem bar_iff {a b : Dev nD} : Iff (barCell a = barCell b) (a = b) :=
  ⟨fun h => (Prod.ext_iff.1 (kcell_inj (a₁ := (a, kBar)) (a₂ := (b, kBar)) h)).1, fun h => h ▸ rfl⟩
theorem rcv_iff {a b : Dev nD} {t t' : T} : Iff (rcvCell a t = rcvCell b t') (a = b ∧ t = t') :=
  ⟨fun h => by
    have := Prod.ext_iff.1 (kcell_inj (a₁ := (a, kRcv t)) (a₂ := (b, kRcv t')) h)
    exact ⟨this.1, Sum.inr.inj (Sum.inr.inj (Sum.inr.inj this.2))⟩, fun h => by rw [h.1, h.2]⟩
theorem bar_ne_rcv {a b : Dev nD} {t : T} : barCell a ≠ rcvCell b t := fun h =>
  absurd (Prod.ext_iff.1 (kcell_inj (a₁ := (a, kBar)) (a₂ := (b, kRcv t)) h)).2 (by simp only [reduceCtorEq, not_false_eq_true])

theorem owedL_bar (d c : Dev nD) (l : List T) : owedL d l (barCell c) () = 0 := by
  induction l with
  | nil => rfl
  | cons t l ih => unfold owedL; rw [Pi.add_apply, Finsupp.add_apply, ih, tallyAt_ne_cell bar_ne_rcv, Finsupp.zero_apply, Nat.add_zero]
theorem owedL_rcv (d c : Dev nD) (t : T) (l : List T) : owedL d l (rcvCell c t) () = if d = frm c t.1 then N * l.count t else 0 := by
  induction l with
  | nil => rw [List.count_nil, Nat.mul_zero, ite_self]; rfl
  | cons t' l ih =>
    unfold owedL
    rw [Pi.add_apply, Finsupp.add_apply, ih, tallyAt_apply, List.count_cons]
    simp only [rcv_iff, and_true]
    by_cases ht : t = t'
    · subst ht
      by_cases hd : d = frm c t.1
      · subst hd
        rw [if_pos rfl, if_pos rfl, if_pos ⟨(tgt_frm c t.1).symm, rfl⟩, if_pos (beq_self_eq_true t), Nat.mul_add, Nat.mul_one]
      · rw [if_neg hd, if_neg hd, if_neg (fun h => hd (by rw [h.1, frm_tgt]))]
    · rw [if_neg (c := c = tgt d t'.1 ∧ t = t') (fun h => ht h.2), Nat.add_zero, if_neg (fun h => ht (eq_of_beq h).symm), Nat.add_zero]

theorem order_count (t : T) : order.count t = 1 := by revert t; decide

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedL_bar, tallyAt_apply, tallyAt_apply, Nat.zero_add]
  simp only [bar_iff, and_true]
  congr 1
  · by_cases h : d = prv c
    · subst h; rw [nxt_prv, if_pos rfl, if_pos rfl]
    · rw [if_neg (fun h' => h (by rw [h', prv_nxt])), if_neg h]
  · by_cases h : d = nxt c
    · subst h; rw [prv_nxt, if_pos rfl, if_pos rfl]
    · rw [if_neg (fun h' => h (by rw [h', nxt_prv])), if_neg h]
theorem owed_rcv (d c : Dev nD) (t : T) : O₀ d (rcvCell c t) () = if d = frm c t.1 then N else 0 := by
  unfold O₀ O₁
  rw [Pi.add_apply, Finsupp.add_apply, Pi.add_apply, Finsupp.add_apply, owedL_rcv, order_count, Nat.mul_one,
    tallyAt_ne_cell (fun h => bar_ne_rcv h.symm), tallyAt_ne_cell (fun h => bar_ne_rcv h.symm), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rcv (c : Dev nD) (t : T) :
    tallyOn (rcvCell c t) (launchCredit (Pipeline.owing O₀) 0 (rcvCell c t)) = (tallyAt (rcvCell c t) () N : CellTallies nD τ sig Unit) := by
  unfold tallyAt; refine congrArg _ (Finsupp.ext fun u => ?_); cases u
  rw [Pipeline.launchCredit_owing, Finsupp.single_eq_same, Finset.sum_congr rfl fun d _ => owed_rcv d c t, Finset.sum_ite_eq' Finset.univ (frm c t.1) fun _ => N,
    if_pos (Finset.mem_univ _)]

theorem creds (c : Dev nD) :
    (Pipeline.launchCred O₀ c : sProp 𝕄) ⊢ iprop(cred (tallyAt (barCell c) () 2) ∗ bigSep Finset.univ fun t : T => cred (tallyAt (rcvCell c t) () N)) := by
  unfold Pipeline.launchCred
  refine (bigSep_subset (Finset.subset_univ (Finset.univ.image csem))).trans ?_
  rw [bigSep_image_of_injOn csem_inj.injOn, sepC]
  exact BIClass.sep_mono (Entails.of_eq (congrArg (fun z => (cred z : sProp 𝕄)) (launch_bar c)))
    (sep_elim_right.trans (sep_elim_right.trans (Entails.of_eq (bigSep_congr (s := Finset.univ) fun (t : T) _ => congrArg (fun z => (cred z : sProp 𝕄)) (launch_rcv c t)))))

/-! ## The rows dealt -/

theorem barPay_at (c d : Dev nD) (L : Bool) (h : tgt d L = c) :
    barPay (F := F) d L = bigSep Finset.univ fun hg : Fin 3 × Fin 4 => iprop(∃ f, segPts (F := F) c (org c L hg.1.succ) L hg.2 f) := by
  subst h
  unfold barPay
  exact bigSep_congr fun hg _ => by rw [org_tgt]

/-- A device's table: its own rows, and the rows its two neighbours will fill. -/
theorem table_split (c : Dev nD) (f : Buf (Elt F) ((c : Thread nD τ).loc cc0_scratch1)) :
    (((c : Thread nD τ).loc cc0_scratch1) ↦{fullShare} f : sProp 𝕄)
      ⊢ iprop((bigSep Finset.univ fun q : Q => iprop(∃ f, segPts (F := F) c c q.1 q.2 f)) ∗ barPay (F := F) (prv c) false ∗ barPay (F := F) (nxt c) true) := by
  have e1 : (((c : Thread nD τ).loc cc0_scratch1) ↦{fullShare} f : sProp 𝕄) = bigSep Finset.univ fun s : SegIx => segPts (F := F) c (org c s.1 s.2.1) s.1 s.2.2 f := by
    rw [← seg_cover c]
    exact pointsTo_biUnion (ℓ := (c : Thread nD τ).loc cc0_scratch1) Finset.univ (segOf c) (fun t ht t' ht' hne => seg_disj c ht ht' hne)
  rw [e1, ← regroup (fun L (k : Fin 4) g => segPts (F := F) c (org c L k) L g f)]
  have e2 : ∀ q : Q, (bigSep Finset.univ fun k : Fin 4 => segPts (F := F) c (org c q.1 k) q.1 q.2 f)
      ⊢ iprop((∃ f, segPts (F := F) c c q.1 q.2 f) ∗ bigSep Finset.univ fun h : Fin 3 => iprop(∃ f, segPts (F := F) c (org c q.1 h.succ) q.1 q.2 f)) := fun q => by
    rw [sep4, sep3, org_zero]
    iintro ⟨H0, H1, H2, H3⟩
    isplitl [H0]; · iexists f; iexact H0
    isplitl [H1]; · iexists f; iexact H1
    isplitl [H2]; · iexists f; iexact H2
    iexists f; iexact H3
  refine (bigSep_mono fun q _ => e2 q).trans ((Entails.of_eq (bigSep_sep' _ _ _)).trans (BIClass.sep_mono .rfl ?_))
  rw [regroup (fun L (h : Fin 3) g => iprop(∃ f, segPts (F := F) c (org c L h.succ) L g f)),
    bigSep_univ_prod (fun s : Bool × Fin 3 × Fin 4 => iprop(∃ f, segPts (F := F) c (org c s.1 s.2.1.succ) s.1 s.2.2 f)), sep2]
  refine BIClass.sep_mono (Entails.of_eq (barPay_at c (prv c) false (nxt_prv c)).symm) (Entails.of_eq (barPay_at c (nxt c) true (prv_nxt c)).symm)

theorem experts_split (c : Dev nD) (f : Buf (Elt F) ((c : Thread nD τ).loc cc0_scratch3)) :
    (((c : Thread nD τ).loc cc0_scratch3) ↦{fullShare} f : sProp 𝕄) = bigSep Finset.univ fun j : Fin 4 => ewPts c j f := by
  rw [← ew_cover]
  exact pointsTo_biUnion (ℓ := (c : Thread nD τ).loc cc0_scratch3) Finset.univ ewSet (fun t ht t' ht' hne => ew_disj ht ht' hne)
theorem arg_split (c : Dev nD) :
    (((c : Thread nD τ).loc main_arg3) ↦{fullShare} (ev m c) : sProp 𝕄) = bigSep Finset.univ fun j : Fin 4 => hbPts m c j := by
  rw [← ew_cover]
  exact pointsTo_biUnion (ℓ := (c : Thread nD τ).loc main_arg3) Finset.univ ewSet (fun t ht t' ht' hne => ew_disj ht ht' hne)

/-! ## What a device's body starts from and leaves -/

/-- A device's share of the launch, its buffers apart. -/
def start (c : Dev nD) : sProp 𝕄 :=
  iprop(G' m c ∗ (cred (tallyAt (barCell c) () 2) ∗ bigSep Finset.univ fun t : T => cred (tallyAt (rcvCell c t) () N)) ∗ levAts Lx lv
    ∗ (((c : Thread nD τ).loc main_arg3) ↦{fullShare} (ev m c)))

theorem chs_intro (c : Dev nD) :
    (bigSep Finset.univ fun q : Q => iprop((∃ f, segPts (F := F) c c q.1 q.2 f) ∗ bigSep Finset.univ fun h : Fin 3 => tk (F := F) c (q.1, h, q.2)))
      ⊢ (bigSep Finset.univ fun q : Q => Ch m c q.1 q.2 11 : sProp 𝕄) :=
  bigSep_mono fun q _ => by
    rw [sep3]
    exact Entails.of_eq (PROP := sProp 𝕄) (P := iprop((∃ f, segPts (F := F) c c q.1 q.2 f) ∗ tk (F := F) c (q.1, 0, q.2) ∗ tk (F := F) c (q.1, 1, q.2) ∗ tk (F := F) c (q.1, 2, q.2))) rfl

theorem ewA_intro (c : Dev nD) (f : Buf (Elt F) ((c : Thread nD τ).loc cc0_scratch3)) (j : Fin 4) :
    iprop(dutyTok ER (ewCell c j) 0 false ∗ atPos ER (ewCell c j) 0 ∅ 0 ∗ ewPts c j f ∗ hbPts m c j) ⊢ EwA m c j := by
  unfold EwA
  iintro ⟨H1, H2, H3, H4⟩
  isplitl [H1]; · iexact H1
  isplitl [H2]; · iexact H2
  isplitl [H3]; · iexists f; iexact H3
  iexact H4

theorem pre_intro (c : Dev nD) :
    iprop(start m c ∗ (anyPts (F := F) c cc0_scratch0 ∗ anyPts (F := F) c cc0_scratch1 ∗ anyPts (F := F) c cc0_scratch2 ∗ anyPts (F := F) c cc0_scratch3)
        ∗ (∃ W : Waits sig Unit, owes (c : Thread nD τ) (O₀ c) W) ∗ xPts m c ∗ rPts m c)
      ⊢ iprop(∃ K, Pre m K c) := by
  unfold start G' Pre poss payToks BarA
  rw [arg_split, sepC]
  iintro ⟨⟨⟨%K, HR, ⟨PB, PE, PS, PR⟩, ⟨TB1, TB2⟩, TE, TS, TR⟩, ⟨CB, CR⟩, HL, HA⟩, ⟨B0, B1, B2, B3⟩, HO, Hx, Hr⟩
  iexists K
  unfold anyPts
  icases B1 with ⟨%f1, B1⟩
  icases B3 with ⟨%f3, B3⟩
  ihave B1 := (table_split c f1) $$ B1
  icases B1 with ⟨Own, N1, N2⟩
  ihave B3 := (Entails.of_eq (experts_split c f3)) $$ B3
  isplitl [HR]; · iexact HR
  isplitl [HL]; · iexact HL
  isplitl [Own TS TR CR PS PR]
  · ihave Ht := (show iprop((bigSep Finset.univ fun t : T => dutyTok ER (sndCell c t) 0 false) ∗ (bigSep Finset.univ fun t : T => dutyTok ER (rcvCell (tgt c t.1) t) 0 false)
        ∗ (bigSep Finset.univ fun t : T => cred (tallyAt (rcvCell c t) () N)) ∗ (bigSep Finset.univ fun t : T => atPos ER (sndCell c t) 0 ∅ 0)
        ∗ bigSep Finset.univ fun t : T => atPos ER (rcvCell c t) 0 ∅ 0)
        ⊢ (bigSep Finset.univ fun q : Q => bigSep Finset.univ fun h : Fin 3 => tk (F := F) c (q.1, h, q.2)) from by
      rw [regroup (fun L (h : Fin 3) g => tk (F := F) c (L, h, g)), ← bigSep_sep', ← bigSep_sep', ← bigSep_sep', ← bigSep_sep']
      exact .rfl) $$ [TS TR CR PS PR]
    · isplitl [TS]; · iexact TS
      isplitl [TR]; · iexact TR
      isplitl [CR]; · iexact CR
      isplitl [PS]; · iexact PS
      iexact PR
    ihave H := (Entails.of_eq (bigSep_sep' Finset.univ (fun q : Q => iprop(∃ f, segPts (F := F) c c q.1 q.2 f)) (fun q : Q => bigSep Finset.univ fun h : Fin 3 => tk (F := F) c (q.1, h, q.2))).symm) $$ [Own Ht]
    · isplitl [Own]; · iexact Own
      iexact Ht
    unfold Chs
    iapply (chs_intro m c)
    iexact H
  isplitl [HO]; · iexact HO
  isplitl [TB1 TB2 CB PB N1 N2]
  · isplitl [TB1]; · iexact TB1
    isplitl [TB2]; · iexact TB2
    isplitl [CB]; · iexact CB
    isplitl [PB]; · iexact PB
    isplitl [N1]; · iexact N1
    iexact N2
  ihave He := (show iprop((bigSep Finset.univ fun j : Fin 4 => dutyTok ER (ewCell c j) 0 false) ∗ (bigSep Finset.univ fun j : Fin 4 => atPos ER (ewCell c j) 0 ∅ 0)
      ∗ (bigSep Finset.univ fun j : Fin 4 => ewPts c j f3) ∗ bigSep Finset.univ fun j : Fin 4 => hbPts m c j)
      ⊢ iprop(EwA m c 0 ∗ EwA m c 1 ∗ EwA m c 2 ∗ EwA m c 3) from by
    rw [← sep4 (fun j => EwA m c j), ← bigSep_sep', ← bigSep_sep', ← bigSep_sep']
    exact bigSep_mono fun j _ => ewA_intro m c f3 j) $$ [TE PE B3 HA]
  · isplitl [TE]; · iexact TE
    isplitl [PE]; · iexact PE
    isplitl [B3]; · iexact B3
    iexact HA
  icases He with ⟨E0, E1, E2, E3⟩
  isplitl [E0]; · iexact E0
  isplitl [E1]; · iexact E1
  isplitl [E2]; · iexact E2
  isplitl [E3]; · iexact E3
  isplitl [Hx]; · iexact Hx
  isplitl [Hr]; · iexact Hr
  isplitl [B0]; · iexact B0
  iexact B2

/-- What the body leaves besides its windows: every semaphore at zero, the experts' argument as it was, its buffers. -/
def fin1 (c : Dev nD) : sProp 𝕄 :=
  iprop((unscopedSems0 c ∗ (((c : Thread nD τ).loc main_arg3) ↦{fullShare} (ev m c))) ∗ ownS (F := F) c
    ∗ (anyPts (F := F) c cc0_scratch0 ∗ anyPts (F := F) c cc0_scratch1 ∗ anyPts (F := F) c cc0_scratch2 ∗ anyPts (F := F) c cc0_scratch3))

theorem post_elim (c : Dev nD) : Post m c ⊢ iprop(fin1 m c ∗ Ow c (order.drop 24) ∗ xPts m c ∗ rPts m c) := by
  unfold Post fin1 Zs dn
  rw [← sep4 (fun j => EwC m c j), unscopedS_eq, ownS_eq]
  unfold EwC
  rw [bigSep_sep', bigSep_sep', bigSep_sep', ← experts_split, ← arg_split]
  iintro ⟨⟨⟨ZS, ZR⟩, ZB, HO⟩, ⟨ZE, B3, HA⟩, Hx, Hr, B0, B1, B2⟩
  isplitl [ZS ZR ZB ZE B3 HA B0 B1 B2]
  · isplitl [ZB HA]
    · isplitl [ZB]; · iexact ZB
      iexact HA
    isplitl [ZE ZS ZR]
    · isplitl [ZE]; · iexact ZE
      isplitl [ZS]; · iexact ZS
      iexact ZR
    isplitl [B0]; · iexact B0
    isplitl [B1]; · unfold yPts anyPts; iexists _; iexact B1
    isplitl [B2]; · unfold sPts anyPts; iexists _; iexact B2
    unfold anyPts; iexists _; iexact B3
  isplitl [HO]; · iexact HO
  isplitl [Hx]; · iexact Hx
  iexact Hr

end Cert.Moe

end
-- ==== Proof.Run.lean ====
/-
# The run

The launch's proof data, the body's obligation, and the run of all four devices: each device's result array is `outv`,
its arguments are as they were, and every semaphore is back at zero.
-/
module

public import Idealize.ShloMosaic.Lib.Pipeline.CollectiveSegs
public import Idealize.ShloMosaic.Lib.Pipeline.ValueKit.Geometry
public import proofs.«01_k».proof.Proof.Gen.KernelIdeal.Points
public import proofs.«01_k».proof.Proof.Ghost

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

def bufs (c : Dev nD) : sProp 𝕄 :=
  iprop(anyPts (F := F) c cc0_scratch0 ∗ anyPts (F := F) c cc0_scratch1 ∗ anyPts (F := F) c cc0_scratch2 ∗ anyPts (F := F) c cc0_scratch3)
def Φ₀ (c : Dev nD) : sProp 𝕄 := iprop(start m c ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => rv m c
    | ⟨2, _⟩ => outv m c
  Φ t := match t with
    | ⟨0, _⟩ => Φ₀ m c
    | ⟨_ + 1, _⟩ => fin1 m c
  q _ := fullShare
  owed t := match t with
    | ⟨0, _⟩ => O₀ c
    | ⟨_ + 1, _⟩ => 0

theorem sepW (Φ : Fin cfg0.W → sProp 𝕄) : bigSep Finset.univ Φ = iprop(Φ (0 : Fin 3) ∗ Φ (1 : Fin 3) ∗ Φ (2 : Fin 3)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before0 (c : Dev nD) (d) : (dats m ρ 0 c).before (0 : Fin 3) t0_0 d = xv m c := by
  unfold Dat.before
  rw [if_pos (fetch0_0 t0_0)]
  funext i
  refine congrArg (xv m c) (funext fun a => Fin.ext ?_)
  match a with
  | ⟨0, _⟩ => exact (Nat.zero_add _).trans (Nat.one_mul _)
  | ⟨1, _⟩ => exact (Nat.zero_add _).trans (Nat.one_mul _)
theorem before1 (c : Dev nD) (d) : (dats m ρ 0 c).before (1 : Fin 3) t0_0 d = rv m c := by
  unfold Dat.before
  rw [if_pos (fetch0_1 t0_0)]
  funext i
  refine congrArg (rv m c) (funext fun a => Fin.ext ?_)
  match a with
  | ⟨0, _⟩ => exact (Nat.zero_add _).trans (Nat.one_mul _)
  | ⟨1, _⟩ => exact (Nat.zero_add _).trans (Nat.one_mul _)

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(fin1 m c ∗ (dats m ρ 0 c).owesAt () t0_0.succ ∗ stg c cc0_stg0_0 (xv m c) ∗ stg c cc0_stg1_0 (rv m c) ∗ stg c cc0_stg2_0 (outv m c))

theorem body_obligation (c : Dev nD) : BodyObligation (dats (F := F) m ρ 0 c) (defs₀ (F := F)) 𝒱₀ () Set.univ := fun t => by
  rw [fin_N0 t]
  rw [sepW, sepW]
  simp only [owns_whole]
  show bodyPre m ρ c ⊢ wp frame (wpE (defs₀ (F := F)) 𝒱₀ c none) Set.univ
    (cc0_body xM (Memref.isWhole_whole _) rM (Memref.isWhole_whole _) hM (Memref.isWhole_whole _) oM (Memref.isWhole_whole _)
      gM (Memref.isWhole_whole _) yM (Memref.isWhole_whole _) sM (Memref.isWhole_whole _) eM (Memref.isWhole_whole _)
      cc0_scratch4 cc0_scratch5 cc0_scratch6 cc0_scratch7 cc0_scratch8) (fun _ => bodyPost m ρ c)
  unfold bodyPre Φ₀ bufs
  iintro ⟨⟨Hs, Hb⟩, Ho, ⟨%d0, %f0, %e0, H0⟩, ⟨%d1, %f1, %e1, H1⟩, ⟨%d2, %f2, -, H2⟩⟩
  have e0' := e0.trans (before0 m ρ c d0)
  have e1' := e1.trans (before1 m ρ c d1)
  subst e0' e1'
  ihave H := (pre_intro m c) $$ [Hs Hb Ho H0 H1]
  · isplitl [Hs]; · iexact Hs
    isplitl [Hb]; · iexact Hb
    isplitl [Ho]
    · unfold Dat.owesAt Pipeline.owesWithin
      icases Ho with ⟨%W, %hW, HO⟩
      iexists W
      iexact HO
    isplitl [H0]; · unfold xPts; iexact H0
    unfold rPts; iexact H1
  icases H with ⟨%K, H⟩
  iapply (body_run m K c) $$ [H H2]
  · isplitl [H]; · iexact H
    unfold anyPts; iexists f2; iexact H2
  iintro ⟨HP, Hout⟩
  ihave HP := (post_elim m c) $$ HP
  icases HP with ⟨Hf, HO, Hx, Hr⟩
  unfold bodyPost
  isplitl [Hf]; · iexact Hf
  isplitl [HO]
  · unfold Dat.owesAt Pipeline.owesWithin Ow
    icases HO with ⟨%W, HO⟩
    iexists W
    isplitr; · ipureintro; exact fun _ _ => Or.inl trivial
    iexact HO
  isplitl [Hx]
  · iexists _; isplitr; · (ipureintro; rfl)
    unfold xPts; iexact Hx
  isplitl [Hr]
  · iexists _; isplitr; · (ipureintro; rfl)
    unfold rPts; iexact Hr
  iexists _; isplitr; · (ipureintro; rfl)
  iexact Hout

/-! ## The launch's side conditions -/

theorem ownSemFacts : Pipeline.OwnSemFacts cfg0.spec osem where
  isScoped := by decide
  inj := fun k k' h => Sum.inr.inj (csem_inj (a₁ := .inr k) (a₂ := .inr k') h)
  disj := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts Lx lv
        ∗ Pipeline.launchCred O₀ c ∗ prngReg c (ρ c) ∗ G' m c)
      ⊢ |={Set.univ}=> iprop(start m c ∗ (((c : Thread nD τ).loc main_arg1) ↦{fullShare} m ((c : Thread nD τ).loc main_arg1))) := by
  rw [Pipeline.unscopedRestP_none, unscopedRest0_eq]
  iintro ⟨⟨HA1, HA3⟩, Hlev, Hcr, -, HG⟩
  ihave Hc := (creds (F := F) c) $$ Hcr
  imodintro
  unfold start
  isplitr [HA1]
  · isplitl [HG]; · iexact HG
    isplitl [Hc]; · iexact Hc
    isplitl [Hlev]; · iexact Hlev
    iexact HA3
  · iexact HA1

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs anyPts
  iintro ⟨Hs, -, Hr⟩
  isplitl [Hs]; · iexact Hs
  iexact Hr

theorem phi1_exit (c : Dev nD) :
    (dats m ρ 0 c).Φ (Fin.last cfg0.N)
      ⊢ iprop((unscopedSems0 c ∗ (((c : Thread nD τ).loc main_arg3) ↦{fullShare} (ev m c))) ∗ Pipeline.ownSems0 osem c ∗ Pipeline.scopedRest cfg0.spec c) := by
  rw [show (dats m ρ 0 c).Φ (Fin.last cfg0.N) = fin1 m c from rfl, scopedRest0_eq]
  unfold fin1 anyPts
  iintro H
  iexact H

theorem waits (c : Dev nD) : (levAts Lx lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off the memory at the end: the barrier's semaphore, and the two arguments no window stages. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_arg3) = m ((c : Thread nD τ).loc main_arg3)

theorem read_one (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  iintro ⟨H, HSI⟩
  ihave H := (pointsTo_read_all (I := Unit) {()} (fun _ => (c : Thread nD τ).loc b) (fun _ => f) s') $$ [H HSI]
  · isplitl [H]; · rw [bigSep_singleton]; iexact H
    iexact HSI
  icases H with ⟨%h, HSI⟩
  isplitr; · ipureintro; exact h () (Finset.mem_singleton_self _)
  iexact HSI

theorem read_end (c : Dev nD) (s' : Phys nD τ sig (Elt F)) :
    iprop((unscopedSems0 c ∗ (((c : Thread nD τ).loc main_arg3) ↦{fullShare} (ev m c))) ∗ (((c : Thread nD τ).loc main_arg1) ↦{fullShare} m ((c : Thread nD τ).loc main_arg1)) ∗ SI s')
      ⊢ (|={Set.univ}=> iprop(⌜QY m c s'.mem⌝ ∗ SI s') : sProp 𝕄) := by
  iintro ⟨⟨Hu, H3⟩, H1, HSI⟩
  ihave H := (read_one c main_arg1 _ s') $$ [H1 HSI]
  · isplitl [H1]; · iexact H1
    iexact HSI
  icases H with ⟨%h1, HSI⟩
  ihave H := (read_one c main_arg3 _ s') $$ [H3 HSI]
  · isplitl [H3]; · iexact H3
    iexact HSI
  icases H with ⟨%h3, HSI⟩
  imod (Pipeline.unscopedSems0_read (X := (unscopedSems0 c : sProp 𝕄)) (c := c) fupd_intro s') $$ [Hu HSI] with H
  · isplitl [Hu]; · iexact Hu
    iexact HSI
  icases H with ⟨%h, HSI⟩
  imodintro
  isplitr; · ipureintro; exact ⟨h, h1, h3⟩
  iexact HSI

/-! ## The run -/

/-- The end of a run: every device's result computed, its arguments unchanged, every semaphore at zero. -/
def End (r : PUnit × MemSt nD τ sig (Elt F)) : Prop :=
  (∀ c : Dev nD, (r.2.mem ((c : Thread nD τ).loc main_v1) : S256x1024.Idx → Elt F .f32) = outv m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

/-- The result's array after the run: its one block, written back. -/
theorem final_out (c : Dev nD) : ((dats m ρ 0 c).arrAt (2 : Fin 3) cfg0.N : S256x1024.Idx → Elt F .f32) = outv m c := by
  funext i
  exact (Pipeline.Dat.arrAt_emb_eq_after_last (dats m ρ 0 c) (2 : Fin 3) t0_0 (by decide +kernel) i).trans rfl

set_option maxRecDepth 8000 in
/-- Every weakly fair execution of the four devices, from any memory with the semaphores at zero, ends, and at `End`. -/
theorem run_main : θ_run defs (onTc (τ := τ) (main (F := F))) (s₀ m ρ) (End m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := Lx) (lv := lv) (hL := Lx_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ (((c : Thread nD τ).loc main_arg3) ↦{fullShare} (ev m c))))
    (Z := fun c => iprop(((c : Thread nD τ).loc main_arg1) ↦{fullShare} m ((c : Thread nD τ).loc main_arg1)))
    (hX := start_intro m ρ) (hin := phi0_intro m ρ) (hout := phi1_exit m ρ)
    (QY := QY m) (hY := read_end m)
    (hQ := fun _ h hs => ⟨fun c => ⟨((h c).1 2).trans (final_out m ρ c), ((h c).1 0).trans ((dats m ρ 0 c).arrAt_in (0 : Fin 3) rfl _), (h c).2.2.2.1,
      ((h c).1 1).trans ((dats m ρ 0 c).arrAt_in (1 : Fin 3) rfl _), (h c).2.2.2.2⟩, sem_eq_zero hs fun c => (h c).2.2.1⟩)

end Cert.Moe

end
-- ==== Proof.Frames.lean ====
/-
# The kernel runs and leaves its arguments as they were

Read off the run of the four devices, at machine floats and at the ideal ones: the program is the same text at both.
-/
module

public import proofs.«01_k».proof.Proof.Run
public import proofs.«01_k».proof.Proof.Gen.Kernel
public import proofs.«01_k».proof.Proof.Gen.ReferenceIdeal.Run
public import proofs.«01_k».proof.Defs

@[expose] public section

set_option maxRecDepth 16384

noncomputable section

namespace Cert.Moe

open Idealize.ShloMosaic Idealize.SL.Sem

/-- What the frame claims say, at any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main m ρ)

/-- The kernel at the ideal floats ends, with its arguments unchanged and every semaphore at zero. -/
theorem frame_ideal : Cert.quiescent_KernelIdeal := fun m ρ _ => frame_any (F := Ideal) m ρ

/-- The two readings of the kernel have one body. -/
theorem bodies_same {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- So they have one table of launches. -/
theorem tables_same {F : FTy → Type} [FloatOps F] : Cert.Kernel.defs (F := F) = Cert.KernelIdeal.defs (F := F) :=
  congrArg (Pipeline.defs _) bodies_same

/-- So does the kernel itself. -/
theorem frame_kernel : Cert.quiescent_Kernel := fun m ρ _ => by
  rw [tables_same]
  exact frame_any (F := Bits) m ρ

/-- And so does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Count.lean ====
/-
# Counting by doubling

A running count taken in steps that each double the window it covers, and its reading of words.
-/
module

public import Idealize.ShloMosaic.Lib.Pointwise
public import Mathlib.Data.Nat.Count

@[expose] public section

noncomputable section

namespace Cert.Moe

open Idealize.ShloMosaic

/-- The sum of the last `w` values up to and including place `t`. -/
def win (y : ℕ → ℕ) (w t : ℕ) : ℕ := ∑ j ∈ Finset.range w, if j ≤ t then y (t - j) else 0

theorem win_one (y : ℕ → ℕ) (t : ℕ) : win y 1 t = y t := by simp [win]

theorem win_add (y : ℕ → ℕ) (w t : ℕ) : win y (w + w) t = win y w t + if t < w then 0 else win y w (t - w) := by
  unfold win
  rw [Finset.sum_range_add]
  congr 1
  split
  next h => exact Finset.sum_eq_zero fun j _ => if_neg (by omega)
  next h =>
    refine Finset.sum_congr rfl fun j _ => ?_
    by_cases hj : w + j ≤ t
    · rw [if_pos hj, if_pos (by omega), show t - (w + j) = t - w - j by omega]
    · rw [if_neg hj, if_neg (by omega)]

/-- A window that reaches the start is the sum of everything up to `t`. -/
theorem win_full (y : ℕ → ℕ) {w t : ℕ} (h : t < w) : win y w t = ∑ i ∈ Finset.range (t + 1), y i := by
  unfold win
  rw [← Finset.sum_range_reflect y (t + 1)]
  obtain ⟨k, rfl⟩ : ∃ k, w = t + 1 + k := ⟨w - (t + 1), by omega⟩
  rw [Finset.sum_range_add, Finset.sum_eq_zero (fun j _ => if_neg (by omega) : ∀ j ∈ Finset.range k, _), add_zero]
  refine Finset.sum_congr rfl fun j hj => ?_
  rw [Finset.mem_range] at hj
  rw [if_pos (by omega), show t + 1 - 1 - j = t - j by omega]

/-- One doubling step on a table of words: add the table moved down by `k` rows. -/
theorem step_win {n k l : ℕ} (y : Fin n → ℕ → ℕ) (x : IVec ⟨2, ![1024, n]⟩ 16) (hkl : k + l = 1024)
    (hs : (⟨2, ![1024, n]⟩ : Shape).Slices ![0, 0] ⟨2, ![l, n]⟩)
    (hc : Shape.Concatenates [⟨2, ![k, n]⟩, ⟨2, ![l, n]⟩] ⟨2, ![1024, n]⟩ 0)
    (hx : ∀ (t : Fin 1024) (e : Fin n), x (ix2 t e) = BitVec.ofNat 16 (win (y e) k t)) (t : Fin 1024) (e : Fin n) :
    addi x (concatenate ⟨2, ![1024, n]⟩ 0 [⟨⟨2, ![k, n]⟩, broadcast ⟨2, ![k, n]⟩ 0#16⟩,
      ⟨⟨2, ![l, n]⟩, extractStridedSlice ⟨2, ![l, n]⟩ ![0, 0] x hs⟩] hc) (ix2 t e) = BitVec.ofNat 16 (win (y e) (k + k) t) := by
  rw [win_add]
  pointwise
  have hadd : ∀ a b : ℕ, IntOp.addi (BitVec.ofNat 16 a) (BitVec.ofNat 16 b) = BitVec.ofNat 16 (a + b) := fun a b =>
    (BitVec.ofNat_add (n := 16) a b).symm
  rw [hx]
  by_cases h : (t : ℕ) < k
  · rw [dif_pos h, if_pos h]
    exact hadd _ 0
  · rw [dif_neg h, if_neg h, ← hadd]
    congr 1
    have ht := t.isLt
    refine Eq.trans (congrArg x ?_) (hx ⟨(t : ℕ) - k, by omega⟩ e)
    funext a
    match a with
    | ⟨0, _⟩ => exact Fin.ext (by show 0 + ((t : ℕ) - k) = _; exact Nat.zero_add _)
    | ⟨1, _⟩ => exact Fin.ext (by show 0 + (e : ℕ) = _; exact Nat.zero_add _)

end Cert.Moe
-- ==== Proof.Slots.lean ====
/-
# What the routing computes

The kernel's counts, ranks and slots as numbers, at the ideal floats.
-/
module

public import proofs.«01_k».proof.Proof.Count
public import proofs.«01_k».proof.Proof.Schedule

@[expose] public section

set_option maxRecDepth 16384

noncomputable section

namespace Cert.Moe

open Idealize.ShloMosaic Cert.KernelIdeal Cert.KernelIdeal.Gen

/-- The expert that token `i` chose. -/
def rt (r : S1024x1.Idx → BitVec 32) (i : ℕ) : ℕ := if h : i < 1024 then (r (ix2 ⟨i, h⟩ 0)).toNat else 0

/-- A token's expert is its route word as a number. -/
theorem rt_val (r : S1024x1.Idx → BitVec 32) (t : Fin 1024) : rt r t = (r (ix2 t 0)).toNat := dif_pos t.isLt

/-- A route word is the word of `a` exactly when the token chose `a`. -/
theorem eq_word_iff (r : S1024x1.Idx → BitVec 32) (t : Fin 1024) (a : ℕ) (ha : a < 2 ^ 32) :
    r (ix2 t 0) = BitVec.ofNat 32 a ↔ rt r t = a := by
  rw [rt_val, ← BitVec.toNat_inj, BitVec.toNat_ofNat, Nat.mod_eq_of_lt ha]

/-- One at the tokens that chose `a`. -/
def hot (r : S1024x1.Idx → BitVec 32) (a i : ℕ) : ℕ := if rt r i = a then 1 else 0

/-- How many tokens up to and including `t` chose `a`. -/
def cnt (r : S1024x1.Idx → BitVec 32) (a t : ℕ) : ℕ := ∑ i ∈ Finset.range (t + 1), hot r a i

/-- A comparison's bit, widened, is one where the words agree. -/
theorem widen_eq (w : ℕ) (x y : BitVec 32) : BitVec.setWidth w (IntOp.cmpi .eq x y) = BitVec.ofNat w (if x = y then 1 else 0) := by
  show BitVec.setWidth w (BitVec.ofBool (x == y)) = _
  by_cases h : x = y
  · subst h
    rw [beq_self_eq_true, if_pos rfl]
    exact BitVec.eq_of_toNat_eq (by rw [BitVec.toNat_setWidth, BitVec.toNat_ofNat]; rfl)
  · rw [if_neg h, beq_false_of_ne h]
    exact BitVec.setWidth_zero _ _

/-- The kernel's sixteen one-hot columns. -/
theorem hot_global (r : IVec S1024x1 32) (t : Fin 1024) (e : Fin 16) :
    k0_pay13 r (ix2 t e) = BitVec.ofNat 16 (hot r e t) := by
  unfold k0_pay13
  pointwise
  rw [widen_eq]
  exact congrArg _ (if_congr (eq_word_iff r t e (by have := e.isLt; omega)) rfl rfl)

/-- The one-hot columns of device `d`'s four experts. -/
theorem hot_local (r : IVec S1024x1 32) (d : Fin 4) (t : Fin 1024) (j : Fin 4) :
    k0_pay3 r (BitVec.ofNat 32 (4 * d)) (ix2 t j) = BitVec.ofNat 16 (hot r (4 * d + j) t) := by
  unfold k0_pay3
  pointwise
  rw [widen_eq, show IntOp.addi (BitVec.ofNat 32 (4 * (d : ℕ))) (BitVec.ofNat 32 (j : ℕ)) = BitVec.ofNat 32 (4 * d + j) from
    (BitVec.ofNat_add (n := 32) _ _).symm]
  exact congrArg _ (if_congr (eq_word_iff r t _ (by have := d.isLt; have := j.isLt; omega)) rfl rfl)

/-- A one-hot entry is at most one. -/
theorem hot_le (r : S1024x1.Idx → BitVec 32) (a i : ℕ) : hot r a i ≤ 1 := by unfold hot; split <;> decide

/-- A count up to `t` is at most `t + 1`. -/
theorem cnt_le (r : S1024x1.Idx → BitVec 32) (a t : ℕ) : cnt r a t ≤ t + 1 := by
  refine (Finset.sum_le_sum fun i _ => hot_le r a i).trans (le_of_eq ?_)
  rw [Finset.sum_const, Finset.card_range, smul_eq_mul, mul_one]

/-- A short word read as a signed number. -/
theorem toInt_short {n : ℕ} (h : n ≤ 1024) : (BitVec.ofNat 16 n).toInt = (n : ℤ) := by
  rw [BitVec.toInt_ofNat']
  exact Int.bmod_eq_of_le (by omega) (by omega)

/-- The running counts of all sixteen experts. -/
theorem cnt_global (r : IVec S1024x1 32) (t : Fin 1024) (e : Fin 16) :
    k0_pay15 (F := Ideal) (k0_pay14 r) (ix2 t e) = (((cnt r e t : ℤ) : ℝ) : EReal) := by
  have h1 : ∀ (t : Fin 1024) (e : Fin 16), k0_pay13 r (ix2 t e) = BitVec.ofNat 16 (win ((fun e : Fin 16 => hot r e) e) 1 t) := fun t e => by
    rw [win_one]; exact hot_global r t e
  have h2 := step_win (k := 1) (l := 1023) (fun e : Fin 16 => hot r e) _ rfl slices_S1024x16_o0_0_S1023x16 concatenates_S1x16_S1023x16_S1024x16_d0 h1
  have h4 := step_win (k := 2) (l := 1022) (fun e : Fin 16 => hot r e) _ rfl slices_S1024x16_o0_0_S1022x16 concatenates_S2x16_S1022x16_S1024x16_d0 h2
  have h8 := step_win (k := 4) (l := 1020) (fun e : Fin 16 => hot r e) _ rfl slices_S1024x16_o0_0_S1020x16 concatenates_S4x16_S1020x16_S1024x16_d0 h4
  have h16 := step_win (k := 8) (l := 1016) (fun e : Fin 16 => hot r e) _ rfl slices_S1024x16_o0_0_S1016x16 concatenates_S8x16_S1016x16_S1024x16_d0 h8
  have h32 := step_win (k := 16) (l := 1008) (fun e : Fin 16 => hot r e) _ rfl slices_S1024x16_o0_0_S1008x16 concatenates_S16x16_S1008x16_S1024x16_d0 h16
  have h64 := step_win (k := 32) (l := 992) (fun e : Fin 16 => hot r e) _ rfl slices_S1024x16_o0_0_S992x16 concatenates_S32x16_S992x16_S1024x16_d0 h32
  have h128 := step_win (k := 64) (l := 960) (fun e : Fin 16 => hot r e) _ rfl slices_S1024x16_o0_0_S960x16 concatenates_S64x16_S960x16_S1024x16_d0 h64
  have h256 := step_win (k := 128) (l := 896) (fun e : Fin 16 => hot r e) _ rfl slices_S1024x16_o0_0_S896x16 concatenates_S128x16_S896x16_S1024x16_d0 h128
  have h512 := step_win (k := 256) (l := 768) (fun e : Fin 16 => hot r e) _ rfl slices_S1024x16_o0_0_S768x16 concatenates_S256x16_S768x16_S1024x16_d0 h256
  have h1024 := step_win (k := 512) (l := 512) (fun e : Fin 16 => hot r e) _ rfl slices_S1024x16_o0_0_S512x16 concatenates_S512x16_S512x16_S1024x16_d0 h512
  have hc : cnt r e t ≤ 1024 := (cnt_le r _ t).trans t.isLt
  have hv := h1024 t e
  rw [win_full _ t.isLt] at hv
  refine (congrArg (fun v : BitVec 16 => ((v.toInt : ℝ) : EReal)) hv).trans ?_
  rw [show (∑ i ∈ Finset.range ((t : ℕ) + 1), hot r e i) = cnt r e t from rfl, toInt_short hc]

/-- The running counts of a device's four experts. -/
theorem cnt_local (r : IVec S1024x1 32) (d : Fin 4) (t : Fin 1024) (j : Fin 4) :
    k0_pay4 (F := Ideal) r (BitVec.ofNat 32 (4 * d)) (ix2 t j) = (((cnt r (4 * d + j) t : ℤ) : ℝ) : EReal) := by
  have h1 : ∀ (t : Fin 1024) (e : Fin 4), k0_pay3 r (BitVec.ofNat 32 (4 * d)) (ix2 t e) = BitVec.ofNat 16 (win ((fun e : Fin 4 => hot r (4 * d + e)) e) 1 t) := fun t e => by
    rw [win_one]; exact hot_local r d t e
  have h2 := step_win (k := 1) (l := 1023) (fun e : Fin 4 => hot r (4 * d + e)) _ rfl slices_S1024x4_o0_0_S1023x4 concatenates_S1x4_S1023x4_S1024x4_d0 h1
  have h4 := step_win (k := 2) (l := 1022) (fun e : Fin 4 => hot r (4 * d + e)) _ rfl slices_S1024x4_o0_0_S1022x4 concatenates_S2x4_S1022x4_S1024x4_d0 h2
  have h8 := step_win (k := 4) (l := 1020) (fun e : Fin 4 => hot r (4 * d + e)) _ rfl slices_S1024x4_o0_0_S1020x4 concatenates_S4x4_S1020x4_S1024x4_d0 h4
  have h16 := step_win (k := 8) (l := 1016) (fun e : Fin 4 => hot r (4 * d + e)) _ rfl slices_S1024x4_o0_0_S1016x4 concatenates_S8x4_S1016x4_S1024x4_d0 h8
  have h32 := step_win (k := 16) (l := 1008) (fun e : Fin 4 => hot r (4 * d + e)) _ rfl slices_S1024x4_o0_0_S1008x4 concatenates_S16x4_S1008x4_S1024x4_d0 h16
  have h64 := step_win (k := 32) (l := 992) (fun e : Fin 4 => hot r (4 * d + e)) _ rfl slices_S1024x4_o0_0_S992x4 concatenates_S32x4_S992x4_S1024x4_d0 h32
  have h128 := step_win (k := 64) (l := 960) (fun e : Fin 4 => hot r (4 * d + e)) _ rfl slices_S1024x4_o0_0_S960x4 concatenates_S64x4_S960x4_S1024x4_d0 h64
  have h256 := step_win (k := 128) (l := 896) (fun e : Fin 4 => hot r (4 * d + e)) _ rfl slices_S1024x4_o0_0_S896x4 concatenates_S128x4_S896x4_S1024x4_d0 h128
  have h512 := step_win (k := 256) (l := 768) (fun e : Fin 4 => hot r (4 * d + e)) _ rfl slices_S1024x4_o0_0_S768x4 concatenates_S256x4_S768x4_S1024x4_d0 h256
  have h1024 := step_win (k := 512) (l := 512) (fun e : Fin 4 => hot r (4 * d + e)) _ rfl slices_S1024x4_o0_0_S512x4 concatenates_S512x4_S512x4_S1024x4_d0 h512
  have hc : cnt r (4 * d + j) t ≤ 1024 := (cnt_le r _ t).trans t.isLt
  have hv := h1024 t j
  rw [win_full _ t.isLt] at hv
  refine (congrArg (fun v : BitVec 16 => ((v.toInt : ℝ) : EReal)) hv).trans ?_
  rw [show (∑ i ∈ Finset.range ((t : ℕ) + 1), hot r (4 * d + j) i) = cnt r (4 * d + j) t from rfl, toInt_short hc]

/-- The sixteen one-hot columns as floats. -/
theorem ones_global (r : IVec S1024x1 32) (t : Fin 1024) (e : Fin 16) :
    k0_pay16 (F := Ideal) (k0_pay13 r) (ix2 t e) = (((hot r e t : ℤ) : ℝ) : EReal) := by
  refine (congrArg (fun v : BitVec 16 => ((v.toInt : ℝ) : EReal)) (hot_global r t e)).trans ?_
  rw [toInt_short ((hot_le r _ _).trans (by decide))]

/-- A device's four one-hot columns as floats. -/
theorem ones_local (r : IVec S1024x1 32) (d : Fin 4) (t : Fin 1024) (j : Fin 4) :
    k0_pay5 (F := Ideal) r (BitVec.ofNat 32 (4 * d)) (ix2 t j) = (((hot r (4 * d + j) t : ℤ) : ℝ) : EReal) := by
  refine (congrArg (fun v : BitVec 16 => ((v.toInt : ℝ) : EReal)) (hot_local r d t j)).trans ?_
  rw [toInt_short ((hot_le r _ _).trans (by decide))]

/-- The float word of 51. -/
theorem lit51 : Ideal.ofBits .f32 0x424C0000#32 = ((51 : ℝ) : EReal) := by
  simp [Ideal.ofBits, Ideal.ieee, -EReal.coe_mul]; norm_num
/-- The float word of 256. -/
theorem lit256 : Ideal.ofBits .f32 0x43800000#32 = ((256 : ℝ) : EReal) := by
  simp [Ideal.ofBits, Ideal.ieee, -EReal.coe_mul]; norm_num
/-- The float word of 64. -/
theorem lit64 : Ideal.ofBits .f32 0x42800000#32 = ((64 : ℝ) : EReal) := by
  simp [Ideal.ofBits, Ideal.ieee, -EReal.coe_mul]; norm_num
/-- The float word of minus one. -/
theorem litNeg : Ideal.ofBits .f32 0xBF800000#32 = ((-1 : ℝ) : EReal) := by
  simp [Ideal.ofBits, Ideal.ieee, -EReal.coe_mul, -EReal.coe_neg]; norm_num

/-- A comparison's bit as a float. -/
theorem bit_float (p : Prop) [Decidable p] :
    (FloatOps.sitofp FTy.f32 (BitVec.setWidth 32 (BitVec.ofBool (decide p))) : Ideal FTy.f32) = (if p then (1 : EReal) else 0) := by
  show ((((BitVec.setWidth 32 (BitVec.ofBool (decide p))).toInt : ℤ) : ℝ) : EReal) = _
  by_cases h : p
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- A sum over the experts `b … b + n - 1` that only the token's own expert enters. -/
theorem sum_hot (r : S1024x1.Idx → BitVec 32) (t n b : ℕ) (f : ℕ → EReal) :
    (∑ e : Fin n, (((hot r (b + e) t : ℤ) : ℝ) : EReal) * f (b + e)) = if b ≤ rt r t ∧ rt r t < b + n then f (rt r t) else 0 := by
  have one : ∀ a, (((hot r a t : ℤ) : ℝ) : EReal) * f a = if rt r t = a then f a else 0 := fun a => by
    unfold hot; by_cases h : rt r t = a
    · rw [if_pos h, if_pos h]; norm_num
    · rw [if_neg h, if_neg h]; norm_num
  rw [Finset.sum_congr rfl fun (e : Fin n) _ => one (b + (e : ℕ))]
  by_cases h : b ≤ rt r t ∧ rt r t < b + n
  · rw [if_pos h, Finset.sum_eq_single (⟨rt r t - b, by omega⟩ : Fin n)]
    · have e : b + (rt r t - b) = rt r t := by omega
      dsimp only; rw [e, if_pos rfl]
    · intro e _ hne; rw [if_neg fun h' => hne (Fin.ext (by dsimp only; omega))]
    · intro h'; exact absurd (Finset.mem_univ _) h'
  · rw [if_neg h]
    refine Finset.sum_eq_zero fun e _ => if_neg fun h' => h ?_
    have := e.isLt
    omega

/-- The rank of a token: its place among those of its expert. -/
theorem rank_global (r : IVec S1024x1 32) (t : Fin 1024) :
    k0_pay17 (F := Ideal) (k0_pay13 r) (k0_pay14 r) (ix2 t 0)
      = if rt r t < 16 then (((cnt r (rt r t) t : ℤ) : ℝ) : EReal) else 0 := by
  unfold k0_pay17
  pointwise
  have h := sum_hot r t 16 0 fun a => (((cnt r a t : ℤ) : ℝ) : EReal)
  simp only [Nat.zero_add, Nat.zero_le, true_and] at h
  exact (Finset.sum_congr rfl fun e _ => congrArg₂ _ (ones_global r t e) (cnt_global r t e)).trans h

/-- Comparing a count with the float 51 compares the numbers. -/
theorem le51 (n : ℕ) : (((n : ℤ) : ℝ) : EReal) ≤ Ideal.ofBits .f32 0x424C0000#32 ↔ n ≤ 51 := by
  rw [lit51, EReal.coe_le_coe_iff, Int.cast_natCast]
  exact_mod_cast Iff.rfl

/-- Whether a token is within its expert's fifty-one. -/
theorem kept_global (r : IVec S1024x1 32) (t : Fin 1024) :
    k0_pay18 (F := Ideal) (k0_pay13 r) (k0_pay14 r) (ix2 t 0)
      = if rt r t < 16 ∧ cnt r (rt r t) t ≤ 51 then 1 else 0 := by
  unfold k0_pay18
  pointwise
  have h := sum_hot r t 16 0 fun a => if cnt r a t ≤ 51 then 1 else 0
  simp only [Nat.zero_add, Nat.zero_le, true_and] at h
  rw [ite_and, ← h]
  refine Finset.sum_congr rfl fun e _ => congrArg₂ _ (ones_global r t e) ?_
  rw [bit_float, cnt_global]
  exact if_congr (le51 _) rfl rfl

/-- The slot of a token: sixty-four to an expert, minus one for a dropped token. -/
def slot (r : S1024x1.Idx → BitVec 32) (t : ℕ) : ℤ :=
  if rt r t < 16 ∧ cnt r (rt r t) t ≤ 51 then 64 * (rt r t : ℤ) + (cnt r (rt r t) t : ℤ) - 1 else -1

/-- The kernel's remainder and quotient by four, on words. -/
def remW (w : BitVec 32) : BitVec 32 :=
  Scalar.select
    (IntOp.andi
      (IntOp.xori (IntOp.cmpi .slt (IntOp.remsi .vector w (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector w (Scalar.select (Scalar.cmpi .eq 4#32 0#32) 1#32 4#32)) 0#32))
    (IntOp.addi (IntOp.remsi .vector w (Scalar.select (Scalar.cmpi .eq 4#32 0#32) 1#32 4#32))
      (Scalar.select (Scalar.cmpi .eq 4#32 0#32) 1#32 4#32))
    (IntOp.remsi .vector w (Scalar.select (Scalar.cmpi .eq 4#32 0#32) 1#32 4#32))
def quoW (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt 4#32 0#32)) (Scalar.extui (Scalar.cmpi .slt 4#32 0#32))))
      (IntOp.cmpi .ne (IntOp.remsi .vector w 4#32) 0#32))
    (IntOp.subi (IntOp.divsi .vector w 4#32) 1#32)
    (IntOp.divsi .vector w 4#32)

/-- The remainder's word of an expert's number is its remainder by four. -/
theorem remW_val : ∀ a : Fin 16, (remW (BitVec.ofNat 32 a)).toInt = ((a : ℕ) % 4 : ℕ) := by decide
/-- The quotient's word of an expert's number is its quotient by four. -/
theorem quoW_val : ∀ a : Fin 16, (quoW (BitVec.ofNat 32 a)).toInt = ((a : ℕ) / 4 : ℕ) := by decide

/-- The kernel's slots are the slots. -/
theorem slot_global (r : IVec S1024x1 32) (t : Fin 1024) :
    k0_pay22 (F := Ideal) r (k0_pay17 (k0_pay13 r) (k0_pay14 r)) (k0_pay18 (k0_pay13 r) (k0_pay14 r))
      (k0_pay19 r) 4#32 (k0_pay20 r) (k0_pay21 r) (ix2 t 0) = (((slot r t : ℤ) : ℝ) : EReal) := by
  have hp := rank_global r t
  have hq := kept_global r t
  generalize k0_pay17 (F := Ideal) (k0_pay13 r) (k0_pay14 r) = p at hp ⊢
  generalize k0_pay18 (F := Ideal) (k0_pay13 r) (k0_pay14 r) = q at hq ⊢
  unfold k0_pay22 k0_pay19 k0_pay20 k0_pay21
  pointwise
  show (if 0 < q (ix2 t 0) then
      (FloatOps.sitofp FTy.f32 (quoW (r (ix2 t 0))) : Ideal FTy.f32) * Ideal.ofBits FTy.f32 0x43800000#32
        + (FloatOps.sitofp FTy.f32 (remW (r (ix2 t 0))) : Ideal FTy.f32) * Ideal.ofBits FTy.f32 0x42800000#32 + p (ix2 t 0) - 1
    else Ideal.ofBits FTy.f32 0xBF800000#32) = _
  rw [hp, hq, litNeg, lit256, lit64]
  unfold slot
  by_cases h : rt r t < 16 ∧ cnt r (rt r t) t ≤ 51
  · rw [if_pos h, if_pos h, if_pos h.1, if_pos (by norm_num)]
    have hw : r (ix2 t 0) = BitVec.ofNat 32 ((⟨rt r t, h.1⟩ : Fin 16) : ℕ) := (eq_word_iff r t _ (by dsimp only; omega)).2 rfl
    rw [hw]
    show ((((quoW (BitVec.ofNat 32 ((⟨rt r t, h.1⟩ : Fin 16) : ℕ))).toInt : ℤ) : ℝ) : EReal) * _
      + ((((remW (BitVec.ofNat 32 ((⟨rt r t, h.1⟩ : Fin 16) : ℕ))).toInt : ℤ) : ℝ) : EReal) * _ + _ - ((1 : ℝ) : EReal) = _
    rw [quoW_val, remW_val, ← EReal.coe_mul, ← EReal.coe_mul, ← EReal.coe_add, ← EReal.coe_add, ← EReal.coe_sub]
    congr 1
    dsimp only
    have e : (4 : ℝ) * ((rt r t / 4 : ℕ) : ℝ) + ((rt r t % 4 : ℕ) : ℝ) = ((rt r t : ℕ) : ℝ) := by
      exact_mod_cast Nat.div_add_mod (rt r t) 4
    simp only [Int.cast_natCast, Int.cast_sub, Int.cast_add, Int.cast_mul, Int.cast_ofNat, Int.cast_one]
    linarith
  · rw [if_neg h, if_neg h, if_neg (lt_irrefl _)]
    norm_num

/-- Within an expert the counts rise at its tokens. -/
theorem cnt_lt (r : S1024x1.Idx → BitVec 32) {t u : ℕ} (h : t < u) : cnt r (rt r u) t < cnt r (rt r u) u := by
  unfold cnt
  rw [Finset.sum_range_succ _ u, show hot r (rt r u) u = 1 from if_pos rfl]
  exact Nat.lt_succ_of_le (Finset.sum_le_sum_of_subset (Finset.range_mono (by omega)))

/-- A token counts itself. -/
theorem cnt_pos (r : S1024x1.Idx → BitVec 32) (t : ℕ) : 1 ≤ cnt r (rt r t) t := by
  unfold cnt
  rw [Finset.sum_range_succ, show hot r (rt r t) t = 1 from if_pos rfl]
  omega

/-- A token is kept when its expert exists and has had at most fifty other tokens before it. -/
def kept (r : S1024x1.Idx → BitVec 32) (t : ℕ) : Prop := rt r t < 16 ∧ cnt r (rt r t) t ≤ 51
instance (r : S1024x1.Idx → BitVec 32) (t : ℕ) : Decidable (kept r t) := by unfold kept; infer_instance

/-- A kept token's slot. -/
theorem slot_kept {r : S1024x1.Idx → BitVec 32} {t : ℕ} (h : kept r t) :
    slot r t = 64 * (rt r t : ℤ) + (cnt r (rt r t) t : ℤ) - 1 := if_pos h
/-- A dropped token's slot is minus one. -/
theorem slot_dropped {r : S1024x1.Idx → BitVec 32} {t : ℕ} (h : ¬ kept r t) : slot r t = -1 := if_neg h

/-- No two kept tokens share a slot. -/
theorem slot_inj {r : S1024x1.Idx → BitVec 32} {t u : ℕ} (ht : kept r t) (h : slot r t = slot r u) : t = u := by
  have h1 := cnt_pos r t
  rw [slot_kept ht] at h
  by_cases hu : kept r u
  · rw [slot_kept hu] at h
    have h2 := cnt_pos r u
    have := ht.2
    have := hu.2
    have he : rt r t = rt r u := by omega
    have hc : cnt r (rt r t) t = cnt r (rt r u) u := by omega
    rcases lt_trichotomy t u with hl | hl | hl
    · have := cnt_lt r hl; rw [← he] at this hc; omega
    · exact hl
    · have := cnt_lt r hl; rw [he] at this hc; omega
  · rw [slot_dropped hu] at h; omega

/-- A kept token's slot lies among its expert's sixty-four. -/
theorem slot_div {r : S1024x1.Idx → BitVec 32} {t : ℕ} (h : kept r t) :
    ∃ g : ℕ, slot r t = g ∧ g < 1024 ∧ g / 64 = rt r t := by
  have h1 := cnt_pos r t
  refine ⟨64 * rt r t + (cnt r (rt r t) t - 1), ?_, ?_, ?_⟩
  · rw [slot_kept h]; omega
  all_goals (have := h.1; have := h.2; omega)

/-- The first slot of a local expert, as a word. -/
theorem mul_word : ∀ j : Fin 4, (IntOp.muli (64#32) (BitVec.ofNat 32 (j : ℕ))).toInt = 64 * (j : ℕ) := by decide
/-- A word read as a signed number. -/
theorem toInt_word {n : ℕ} (h : n < 2 ^ 31) : (BitVec.ofNat 32 n).toInt = (n : ℤ) := by
  rw [BitVec.toInt_ofNat']
  exact Int.bmod_eq_of_le (by omega) (by omega)

/-- The tokens gathered into the slots of device `d`. -/
theorem gathered (r : IVec S1024x1 32) (d : Fin 4) (x : FVec Ideal S1024x512 .f32) (s : Fin 256) (k : Fin 512) :
    k0_pay6 (F := Ideal) (k0_pay4 r (BitVec.ofNat 32 (4 * d))) (k0_pay5 r (BitVec.ofNat 32 (4 * d))) c51 x (ix2 s k)
      = ∑ t : Fin 1024, (if slot r t = ((256 * d + s : ℕ) : ℤ) then (1 : EReal) else 0) * x (ix2 t k) := by
  have hp := fun t j => cnt_local r d t j
  have hq := fun t j => ones_local r d t j
  generalize k0_pay4 (F := Ideal) r (BitVec.ofNat 32 (4 * d)) = p at hp ⊢
  generalize k0_pay5 (F := Ideal) r (BitVec.ofNat 32 (4 * d)) = q at hq ⊢
  unfold k0_pay6 c51
  pointwise
  refine Finset.sum_congr rfl fun t _ => ?_
  congr 1
  rw [bit_float]
  have hA : (∑ j : Fin 4, q (ix2 t j) * (FloatOps.sitofp FTy.f32
      (BitVec.setWidth 32 (BitVec.ofBool (decide (p (ix2 t j) ≤ Ideal.ofBits FTy.f32 0x424C0000#32)))) : Ideal FTy.f32))
      = if (4 * (d : ℕ) ≤ rt r t ∧ rt r t < 4 * d + 4) then (if cnt r (rt r t) t ≤ 51 then (1 : EReal) else 0) else 0 := by
    refine Eq.trans ?_ (sum_hot r t 4 (4 * d) fun a => if cnt r a t ≤ 51 then 1 else 0)
    refine Finset.sum_congr rfl fun j _ => congrArg₂ _ (hq t j) ?_
    rw [bit_float, hp]
    exact if_congr (le51 _) rfl rfl
  have hB : (∑ j : Fin 4, q (ix2 t j) * (FloatOps.sitofp FTy.f32
      (BitVec.setWidth 32 (BitVec.ofBool (decide (p (ix2 t j) ≤ Ideal.ofBits FTy.f32 0x424C0000#32)))) : Ideal FTy.f32)
        * ((FloatOps.sitofp FTy.f32 (IntOp.muli (64#32) (BitVec.ofNat 32 (j : ℕ))) : Ideal FTy.f32) + p (ix2 t j) - 1))
      = if (4 * (d : ℕ) ≤ rt r t ∧ rt r t < 4 * d + 4) then (if cnt r (rt r t) t ≤ 51 then (1 : EReal) else 0)
          * (((64 * ((rt r t : ℤ) - 4 * (d : ℕ)) + (cnt r (rt r t) t : ℤ) - 1 : ℤ) : ℝ) : EReal) else 0 := by
    refine Eq.trans ?_ (sum_hot r t 4 (4 * d) fun a => (if cnt r a t ≤ 51 then (1 : EReal) else 0)
      * (((64 * ((a : ℤ) - 4 * (d : ℕ)) + (cnt r a t : ℤ) - 1 : ℤ) : ℝ) : EReal))
    refine Finset.sum_congr rfl fun j _ => ?_
    rw [bit_float, hp, hq, mul_assoc]
    refine congrArg₂ _ rfl (congrArg₂ _ (if_congr (le51 _) rfl rfl) ?_)
    show ((((IntOp.muli (64#32) (BitVec.ofNat 32 (j : ℕ))).toInt : ℤ) : ℝ) : EReal) + _ - ((1 : ℝ) : EReal) = _
    rw [mul_word, ← EReal.coe_add, ← EReal.coe_sub]
    congr 1
    push_cast
    ring
  refine if_congr ?_ rfl rfl
  rw [hA, hB, litNeg]
  show _ = ((((BitVec.ofNat 32 (s : ℕ)).toInt : ℤ) : ℝ) : EReal) ↔ _
  rw [toInt_word (by have := s.isLt; omega)]
  have hs := s.isLt
  by_cases h1 : 4 * (d : ℕ) ≤ rt r t ∧ rt r t < 4 * d + 4
  · by_cases h2 : cnt r (rt r t) t ≤ 51
    · have hk : kept r t := ⟨by have := d.isLt; omega, h2⟩
      rw [if_pos h1, if_pos h1, if_pos h2, one_mul, if_pos (by norm_num), slot_kept hk, EReal.coe_eq_coe_iff, Int.cast_inj]
      push_cast
      omega
    · rw [if_pos h1, if_pos h1, if_neg h2, if_neg (lt_irrefl _), slot_dropped fun hk => h2 hk.2, EReal.coe_eq_coe_iff]
      refine iff_of_false (fun h => ?_) (by omega)
      rw [← Int.cast_one, ← Int.cast_neg, Int.cast_inj] at h
      omega
  · rw [if_neg h1, if_neg (lt_irrefl _), EReal.coe_eq_coe_iff]
    refine iff_of_false (fun h => ?_) (fun h => ?_)
    · rw [← Int.cast_one, ← Int.cast_neg, Int.cast_inj] at h
      omega
    · by_cases hk : kept r t
      · have h2 := cnt_pos r t
        have h3 := hk.2
        rw [slot_kept hk] at h
        omega
      · rw [slot_dropped hk] at h; omega

end Cert.Moe
-- ==== Proof.Values.lean ====
/-
# What the kernel leaves in its result

The gathered table, the selection and the result of every device as plain sums.
-/
module

public import proofs.«01_k».proof.Proof.Slots

@[expose] public section

set_option maxRecDepth 16384

noncomputable section

namespace Cert.Moe

open Idealize.ShloMosaic Idealize.ShloMosaic.TcCoe Cert.KernelIdeal Cert.KernelIdeal.Gen

variable (m : (ℓ : Loc nD τ sig) → Buf (Elt Ideal) ℓ)

/-- The number of a device's first expert, as the kernel computes it. -/
theorem b4_val : ∀ d : Fin 4, b4 d = BitVec.ofNat 32 (4 * (d : ℕ)) := by decide

/-- The routes as the kernel reads them are the staged routes. -/
theorem r55_val (d : Dev nD) : r55 (F := Ideal) m d = rv m d := by
  unfold r55 k0_pay2
  funext i
  rw [show i = ix2 (i 0) (i 1) by funext a; match a with | ⟨0, _⟩ => rfl | ⟨1, _⟩ => rfl]
  pointwise

/-- Row `s` of a device's gathered tokens. -/
theorem Xc_val (d : Dev nD) (s : Fin 256) (k : Fin 512) :
    Xc (F := Ideal) m d (ix2 s k)
      = ∑ t : Fin 1024, (if slot (rv m d) t = ((256 * (d : ℕ) + s : ℕ) : ℤ) then (1 : EReal) else 0) * xv m d (ix2 t k) := by
  unfold Xc
  rw [r55_val, b4_val]
  exact gathered (rv m d) d (xv m d) s k

/-- The experts of a device, read at an index. -/
theorem ewv_val (d : Dev nD) (j : Fin 4) (k : Fin 512) (o : Fin 1024) :
    ewv (F := Ideal) m d j (ix3 0 k o) = ev m d (ix3 j k o) := by
  show ev m d _ = ev m d _
  congr 1
  funext a
  match a with
  | ⟨0, _⟩ => exact Fin.ext (show j.val + 1 * 0 = j.val by omega)
  | ⟨1, _⟩ => exact Fin.ext (show 0 + 1 * k.val = k.val by omega)
  | ⟨2, _⟩ => exact Fin.ext (show 0 + 1 * o.val = o.val by omega)

/-- A local expert's rows: its gathered tokens times its weights. -/
theorem chunk_val (d : Dev nD) (j : Fin 4) (a : Fin 64) (o : Fin 1024) :
    chunk (F := Ideal) m d j (ix2 a o)
      = ∑ k : Fin 512, Xc (F := Ideal) m d (ix2 ⟨64 * j + a, by omega⟩ k) * ev m d (ix3 j k o) := by
  have hw := fun k => ewv_val m d j k o
  match j with
  | 0 =>
    unfold chunk
    show k0_pay8 (F := Ideal) (extractStridedSlice S64x512 ![0, 0] (Xc (F := Ideal) m d) slices_S256x512_o0_0_S64x512) _ _ = _
    generalize Xc (F := Ideal) m d = X
    unfold k0_pay8
    pointwise
    refine Finset.sum_congr rfl fun k _ => congrArg₂ _ (congrArg (fun i : Fin 256 => X (ix2 i k)) (Fin.ext ?_)) (hw k)
    simp
  | 1 =>
    unfold chunk
    dsimp only
    generalize Xc (F := Ideal) m d = X
    unfold k0_pay10 k0_pay9
    pointwise
    exact Finset.sum_congr rfl fun k _ => congrArg₂ _ (congrArg (fun i : Fin 256 => X (ix2 i k)) (Fin.ext rfl)) (hw k)
  | 2 =>
    unfold chunk
    dsimp only
    generalize Xc (F := Ideal) m d = X
    unfold k0_pay11
    pointwise
    exact Finset.sum_congr rfl fun k _ => congrArg₂ _ (congrArg (fun i : Fin 256 => X (ix2 i k)) (Fin.ext rfl)) (hw k)
  | 3 =>
    unfold chunk
    dsimp only
    generalize Xc (F := Ideal) m d = X
    unfold k0_pay12
    pointwise
    exact Finset.sum_congr rfl fun k _ => congrArg₂ _ (congrArg (fun i : Fin 256 => X (ix2 i k)) (Fin.ext rfl)) (hw k)

/-- A device's own tokens start at `256 d`. -/
theorem off4_val : ∀ d : Fin 4, k0_off4 d 0 = 256 * (d : ℕ) := by decide

/-- The selection has a one where a token's slot is. -/
theorem sel_val (d : Dev nD) (q : Fin 256) (g : Fin 1024) :
    selv (F := Ideal) m d (ix2 q g) = if slot (rv m d) (256 * (d : ℕ) + q) = (g : ℕ) then (1 : EReal) else 0 := by
  have hd : (d : ℕ) < 4 := d.isLt
  have hg : gM.view.readAt (Elt Ideal) (Rect.unit (s := S1024x1) (k0_off4 d) S256x1.size (k0_off4_inb d)).toLoadRect (gslv m d) (ix2 q 0)
      = (((slot (rv m d) (256 * (d : ℕ) + q) : ℤ) : ℝ) : EReal) := by
    refine Eq.trans (b := gslv (F := Ideal) m d (ix2 ⟨256 * d + q, by omega⟩ 0)) ?_ ?_
    · show gslv m d _ = gslv m d _
      congr 1
      funext a
      match a with
      | ⟨0, _⟩ => exact Fin.ext (show k0_off4 d 0 + 1 * q.val = 256 * d.val + q.val by rw [off4_val d]; omega)
      | ⟨1, _⟩ => exact Fin.ext rfl
    · unfold gslv
      rw [r55_val]
      exact slot_global (rv m d) ⟨256 * d + q, by omega⟩
  unfold selv k0_pay24 k0_pay23
  generalize gM.view.readAt (Elt Ideal) (Rect.unit (s := S1024x1) (k0_off4 d) S256x1.size (k0_off4_inb d)).toLoadRect (gslv m d) = u at hg ⊢
  pointwise
  rw [bit_float, hg]
  refine if_congr ?_ rfl rfl
  show _ = ((((BitVec.ofNat 32 (g : ℕ)).toInt : ℤ) : ℝ) : EReal) ↔ _
  rw [toInt_word (by have := g.isLt; omega), EReal.coe_eq_coe_iff, Int.cast_inj]

/-- A device's result is its selection times the gathered table. -/
theorem out_sum (d : Dev nD) (q : Fin 256) (o : Fin 1024) :
    outv (F := Ideal) m d (ix2 q o) = ∑ g : Fin 1024, selv (F := Ideal) m d (ix2 q g) * YA (F := Ideal) m (ix2 g o) := by
  unfold outv
  generalize selv (F := Ideal) m d = u
  generalize YA (F := Ideal) m = v
  unfold k0_pay1
  pointwise

/-- The gathered table, when all devices are given the same tokens `x` and routes `r` and device `d` the experts `4 d … 4 d + 3` of `W`. -/
theorem YA_val (x : S1024x512.Idx → EReal) (r : S1024x1.Idx → BitVec 32) (W : Fin 16 → Fin 512 → Fin 1024 → EReal)
    (hx : ∀ d, xv (F := Ideal) m d = x) (hr : ∀ d, rv (F := Ideal) m d = r)
    (hW : ∀ (d : Dev nD) (j : Fin 4) k o, ev (F := Ideal) m d (ix3 j k o) = W ⟨4 * d + j, by have : (d : ℕ) < 4 := d.isLt; omega⟩ k o)
    (g : Fin 1024) (o : Fin 1024) :
    YA (F := Ideal) m (ix2 g o)
      = ∑ k : Fin 512, (∑ t : Fin 1024, (if slot r t = ((g : ℕ) : ℤ) then (1 : EReal) else 0) * x (ix2 t k)) * W ⟨g / 64, by omega⟩ k o := by
  have hg := g.isLt
  refine Eq.trans (b := chunk (F := Ideal) m (⟨(g : ℕ) / 256, by omega⟩ : Fin 4) ⟨(g : ℕ) % 256 / 64, by omega⟩ (ix2 ⟨(g : ℕ) % 64, by omega⟩ o)) ?_ ?_
  · show chunk m _ _ _ = chunk m _ _ _
    congr 1
    funext a
    match a with
    | ⟨0, _⟩ => rfl
    | ⟨1, _⟩ => rfl
  · rw [chunk_val]
    refine Finset.sum_congr rfl fun k _ => congrArg₂ _ ?_ ?_
    · rw [Xc_val, hx, hr]
      refine Finset.sum_congr rfl fun t _ => congrArg₂ _ (if_congr ?_ rfl rfl) rfl
      dsimp only
      rw [show 256 * ((g : ℕ) / 256) + (64 * ((g : ℕ) % 256 / 64) + (g : ℕ) % 64) = g by omega]
    · rw [hW]
      congr 1
      exact Fin.ext (show 4 * ((g : ℕ) / 256) + (g : ℕ) % 256 / 64 = g / 64 by omega)

/-- A device's result: a kept token's row is that token times its expert, a dropped token's row is zero. -/
theorem out_val (x : S1024x512.Idx → EReal) (r : S1024x1.Idx → BitVec 32) (W : Fin 16 → Fin 512 → Fin 1024 → EReal)
    (hx : ∀ d, xv (F := Ideal) m d = x) (hr : ∀ d, rv (F := Ideal) m d = r)
    (hW : ∀ (d : Dev nD) (j : Fin 4) k o, ev (F := Ideal) m d (ix3 j k o) = W ⟨4 * d + j, by have : (d : ℕ) < 4 := d.isLt; omega⟩ k o)
    (d : Dev nD) (q : Fin 256) (o : Fin 1024) (t : Fin 1024) (ht : (t : ℕ) = 256 * d + q) :
    outv (F := Ideal) m d (ix2 q o)
      = if h : kept r t then ∑ k : Fin 512, x (ix2 t k) * W ⟨rt r t, h.1⟩ k o else 0 := by
  rw [out_sum, Finset.sum_congr rfl fun g _ => congrArg₂ (· * ·) (sel_val m d q g) (YA_val m x r W hx hr hW g o), hr, ← ht]
  by_cases h : kept r t
  · rw [dif_pos h]
    obtain ⟨g, hg, hl, hd⟩ := slot_div h
    rw [Finset.sum_eq_single (⟨g, hl⟩ : Fin 1024)]
    · rw [if_pos hg, one_mul]
      refine Finset.sum_congr rfl fun k _ => congrArg₂ _ ?_ ?_
      · rw [Finset.sum_eq_single t]
        · rw [if_pos hg, one_mul]
        · intro u _ hne
          rw [if_neg fun h' => hne (Fin.ext (slot_inj h (hg.trans h'.symm)).symm), zero_mul]
        · intro h'; exact absurd (Finset.mem_univ _) h'
      · congr 1
        exact Fin.ext hd
    · intro g' _ hne
      rw [if_neg fun h' => hne (Fin.ext (by rw [hg] at h'; dsimp only; omega)), zero_mul]
    · intro h'; exact absurd (Finset.mem_univ _) h'
  · rw [dif_neg h]
    refine Finset.sum_eq_zero fun g _ => ?_
    rw [slot_dropped h, if_neg (by omega), zero_mul]

end Cert.Moe
-- ==== Proof.Reference.lean ====
/-
# What the reference leaves in its result

The reference's result at an index: a kept token's row times its expert, zero for a dropped token.
-/
module

public import proofs.«01_k».proof.Proof.Slots
public import proofs.«01_k».proof.Proof.Gen.ReferenceIdeal.Run
public import Idealize.ShloMosaic.Lib.Pointwise

@[expose] public section

set_option maxRecDepth 16384

noncomputable section

namespace Cert.Moe

open Idealize.ShloMosaic Cert.ReferenceIdeal Cert.ReferenceIdeal.Gen

/-- How many earlier tokens chose each token's expert, as the reference counts them. -/
def before (r : IVec S1024x1 32) : IVec S1024 32 :=
  Host.reduce IntOp.addi (extui 32 (andi (cmpi .eq (broadcastInDim S1024x1024 ![0, 1] bcast_S1x1024_S1024x1024_0_1 (broadcastInDim S1x1024 ![1] bcast_S1024_S1x1024_1 (shapeCast _ r shapeCasts_S1024x1_S1024))) (broadcastInDim S1024x1024 ![0, 1] bcast_S1024x1_S1024x1024_0_1 (broadcastInDim S1024x1 ![0] bcast_S1024_S1024x1_0 (shapeCast _ r shapeCasts_S1024x1_S1024)))) (cmpi .slt (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) natLt_1_32) (constantI S_ 32 0#32) reducesTo_S1024x1024_S1024_d1 h_S_

/-- The reference's result as a function of the tokens, the routes and the experts. -/
def refv (x : FVec Ideal S1024x512 .f32) (r : IVec S1024x1 32) (W : FVec Ideal S16x512x1024 .f32) : FVec Ideal S1024x1024 .f32 :=
  Host.reduceAdd (select (broadcastInDim S1024x16x1024 ![0, 1, 2] bcast_S1024x16x1_S1024x16x1024_0_1_2 (broadcastInDim S1024x16x1 ![0, 1] bcast_S1024x16_S1024x16x1_0_1 (andi (cmpi .eq (broadcastInDim S1024x16 ![0, 1] bcast_S1024x1_S1024x16_0_1 (broadcastInDim S1024x1 ![0] bcast_S1024_S1024x1_0 (shapeCast _ r shapeCasts_S1024x1_S1024))) (broadcastInDim S1024x16 ![0, 1] bcast_S1x16_S1024x16_0_1 (broadcastInDim S1x16 ![1] bcast_S16_S1x16_1 (iotaInDim S16 32 0)))) (broadcastInDim S1024x16 ![0, 1] bcast_S1024x1_S1024x16_0_1 (broadcastInDim S1024x1 ![0] bcast_S1024_S1024x1_0 (cmpi .slt (before r) (broadcastInDim S1024 ![] bcast_S_S1024 (constantI S_ 32 51#32)))))))) (Host.dotGeneral dot_S1024x512_S16x512x1024_S1024x16x1024_1_1_0_02_n_n none x W) (broadcastInDim S1024x16x1024 ![] bcast_S_S1024x16x1024 (id (constant S_ .f32 0x00000000#32)))) (constant S_ .f32 0x00000000#32) reducesTo_S1024x16x1024_S1024x1024_d1 h_S_

/-- The signed comparison of two small words is that of the numbers. -/
theorem slt_bit {a b : ℕ} (ha : a < 2 ^ 31) (hb : b < 2 ^ 31) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_word ha, toInt_word hb]
  congr 1
  exact decide_eq_decide.2 (by omega)

/-- The conjunction of two bits is the bit of the conjunction. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The equality comparison's bit. -/
theorem eq_bit (x y : BitVec 32) : IntOp.cmpi .eq x y = BitVec.ofBool (decide (x = y)) := by
  show BitVec.ofBool (x == y) = _
  congr 1

/-- A widened bit is zero or one. -/
theorem widen_bit (p : Prop) [Decidable p] : BitVec.setWidth 32 (BitVec.ofBool (decide p)) = BitVec.ofNat 32 (if p then 1 else 0) := by
  by_cases hp : p <;> simp [hp]

/-- Adding up words that are numbers. -/
theorem fold_words {ι : Type} (s : Finset ι) (f : ι → ℕ) :
    Finset.fold IntOp.addi (0#32) (fun i => BitVec.ofNat 32 (f i)) s = BitVec.ofNat 32 (∑ i ∈ s, f i) := by
  classical
  induction s using Finset.induction_on with
  | empty => rfl
  | insert a s ha ih =>
    rw [Finset.fold_insert ha, ih, Finset.sum_insert ha, BitVec.ofNat_add]
    rfl

/-- The earlier tokens of `t`'s expert number one fewer than those up to `t`. -/
theorem sum_before (r : S1024x1.Idx → BitVec 32) (n t : ℕ) (ht : t < n) :
    (∑ u : Fin n, if (u : ℕ) < t then hot r (rt r t) u else 0) = cnt r (rt r t) t - 1 := by
  rw [← Finset.sum_range (fun i => if i < t then hot r (rt r t) i else 0), ← Finset.sum_filter,
    show (Finset.range n).filter (fun i => i < t) = Finset.range t by ext i; simp only [Finset.mem_filter, Finset.mem_range]; omega]
  unfold cnt
  rw [Finset.sum_range_succ, show hot r (rt r t) t = 1 from if_pos rfl]
  omega

/-- One where an earlier token chose the same expert. -/
theorem earlier_word (r : S1024x1.Idx → BitVec 32) (u t : Fin 1024) :
    BitVec.setWidth 32 (IntOp.andi (IntOp.cmpi .eq (r (ix2 u 0)) (r (ix2 t 0)))
      (IntOp.cmpi .slt (BitVec.ofNat 32 (u : ℕ)) (BitVec.ofNat 32 (t : ℕ))))
      = BitVec.ofNat 32 (if (u : ℕ) < t then hot r (rt r t) u else 0) := by
  have hu := u.isLt
  have ht := t.isLt
  have he : r (ix2 u 0) = r (ix2 t 0) ↔ rt r u = rt r t := by rw [rt_val, rt_val, BitVec.toNat_inj]
  rw [slt_bit (by omega) (by omega), eq_bit, and_bit, widen_bit]
  refine congrArg (BitVec.ofNat 32) ?_
  unfold hot
  by_cases h1 : rt r u = rt r t
  · by_cases h2 : (u : ℕ) < t
    · rw [if_pos ⟨he.2 h1, h2⟩, if_pos h2, if_pos h1]
    · rw [if_neg fun h => h2 h.2, if_neg h2]
  · rw [if_neg fun h => h1 (he.1 h.1), if_neg h1, ite_self]

/-- The reference counts the earlier tokens of the same expert. -/
theorem before_val (r : IVec S1024x1 32) (t : Fin 1024) : before r (ix1 t) = BitVec.ofNat 32 (cnt r (rt r t) t - 1) := by
  unfold before
  pointwise
  refine Eq.trans (Finset.fold_congr fun u _ => earlier_word r u t) ?_
  rw [fold_words, sum_before r 1024 t t.isLt]

/-- A selection by a bit is a case distinction. -/
theorem select_bit {α : Type} (p : Prop) [Decidable p] (a b : α) :
    Scalar.select (BitVec.ofBool (decide p)) a b = if p then a else b := by
  by_cases hp : p <;> simp [hp, Scalar.select]

/-- The reference's result: a kept token's row times its expert, zero for a dropped token. -/
theorem ref_val (x : FVec Ideal S1024x512 .f32) (r : IVec S1024x1 32) (W : FVec Ideal S16x512x1024 .f32) (t o : Fin 1024) :
    refv x r W (ix2 t o) = if h : kept r t then ∑ k : Fin 512, x (ix2 t k) * W (ix3 ⟨rt r t, h.1⟩ k o) else 0 := by
  unfold refv
  have hb := before_val r t
  generalize before r = b at hb ⊢
  pointwise
  have ht := t.isLt
  have hc := cnt_le r (rt r t) t
  have hp := cnt_pos r t
  have z : (id (constant (F := Ideal) S_ FTy.f32 0x00000000#32) ix0 : EReal) = 0 := Ideal.ofBits_zero_f32
  rw [hb, z, slt_bit (by omega) (by omega)]
  have one : ∀ e : Fin 16, Scalar.select
        (IntOp.andi (IntOp.cmpi .eq (r (ix2 t 0)) (BitVec.ofNat 32 (e : ℕ))) (BitVec.ofBool (decide (cnt r (rt r t) t - 1 < 51))))
        (∑ k : Fin 512, x (ix2 t k) * W (ix3 e k o)) (0 : EReal)
      = if rt r t = e ∧ cnt r (rt r t) t ≤ 51 then ∑ k : Fin 512, x (ix2 t k) * W (ix3 e k o) else 0 := fun e => by
    rw [eq_bit, and_bit, select_bit]
    exact if_congr (and_congr (eq_word_iff r t e (by have := e.isLt; omega)) (by omega)) rfl rfl
  refine (Finset.sum_congr rfl fun e _ => one e).trans ?_
  by_cases h : kept r t
  · rw [dif_pos h, Finset.sum_eq_single (⟨rt r t, h.1⟩ : Fin 16)]
    · exact if_pos ⟨rfl, h.2⟩
    · intro e _ hne
      exact if_neg fun h' => hne (Fin.ext h'.1.symm)
    · intro h'; exact absurd (Finset.mem_univ _) h'
  · rw [dif_neg h]
    exact Finset.sum_eq_zero fun e _ => if_neg fun (h' : rt r t = e ∧ cnt r (rt r t) t ≤ 51) => h ⟨h'.1 ▸ e.isLt, h'.2⟩

end Cert.Moe
-- ==== Proof.Equal.lean ====
/-
# The kernel's results are the reference's

Block `d` of the reference's result is device `d`'s result, and both programs end with it.
-/
module

public import proofs.«01_k».proof.Defs
public import proofs.«01_k».proof.Proof.Frames
public import proofs.«01_k».proof.Proof.Values
public import proofs.«01_k».proof.Proof.Reference
public import Idealize.ShloMosaic.Lib.Layout

@[expose] public section

set_option maxRecDepth 16384

noncomputable section

namespace Cert.Moe

open Idealize.ShloMosaic Idealize.ShloMosaic.TcCoe Idealize.SL.Sem

/-- A device's result is its block of the reference's. -/
theorem out_block (m : (ℓ : Loc Cert.KernelIdeal.nD Cert.KernelIdeal.τ Cert.KernelIdeal.sig) → Buf (Elt Ideal) ℓ)
    (x : Cert.KernelIdeal.S1024x512.Idx → EReal) (r : Cert.KernelIdeal.S1024x1.Idx → BitVec 32)
    (W : (⟨3, ![16, 512, 1024]⟩ : Shape).Idx → EReal)
    (hx : ∀ d, xv (F := Ideal) m d = x) (hr : ∀ d, rv (F := Ideal) m d = r)
    (hW : ∀ d : Fin 4, ev (F := Ideal) m d = Layout.block ⟨3, ![4, 512, 1024]⟩ ⟨3, ![16, 512, 1024]⟩ 0 4 d W)
    (d : Fin 4) :
    outv (F := Ideal) m d = Layout.block ⟨2, ![256, 1024]⟩ ⟨2, ![1024, 1024]⟩ 0 4 d (refv x r W) := by
  funext i
  have hd : (d : ℕ) < 4 := d.isLt
  have hi : i = ix2 (i 0 : Fin 256) (i 1 : Fin 1024) := by funext a; match a with | ⟨0, _⟩ => rfl | ⟨1, _⟩ => rfl
  have h0 : (i 0 : ℕ) < 256 := (i 0).isLt
  have hW' : ∀ (d : Fin 4) (j : Fin 4) (k : Fin 512) (o : Fin 1024),
      ev (F := Ideal) m d (ix3 j k o) = W (ix3 (⟨4 * d + j, by omega⟩ : Fin 16) k o) := fun d j k o => by
    rw [hW d, Layout.block_apply]
    congr 1
    funext a
    match a with
    | ⟨0, _⟩ => exact Fin.ext (by rw [Layout.Tiles.idx_val]; simp; omega)
    | ⟨1, _⟩ => exact Fin.ext (by rw [Layout.Tiles.idx_val]; simp)
    | ⟨2, _⟩ => exact Fin.ext (by rw [Layout.Tiles.idx_val]; simp)
  rw [Layout.block_apply]
  have hidx : Layout.Tiles.idx (S := ⟨2, ![256, 1024]⟩) (T := ⟨2, ![1024, 1024]⟩) (a := 0) (k := 4) (by decide) d i
      = ix2 (⟨256 * d + (i 0 : ℕ), by omega⟩ : Fin 1024) (i 1 : Fin 1024) := by
    funext a
    match a with
    | ⟨0, _⟩ => exact Fin.ext (by rw [Layout.Tiles.idx_val]; simp; omega)
    | ⟨1, _⟩ => exact Fin.ext (by rw [Layout.Tiles.idx_val]; simp)
  refine Eq.trans ?_ (congrArg (refv x r W) hidx).symm
  refine Eq.trans ?_ (ref_val x r W ⟨256 * d + (i 0 : ℕ), by omega⟩ (i 1)).symm
  refine (congrArg (outv (F := Ideal) m d) hi).trans ?_
  exact out_val m x r (fun e k o => W (ix3 e k o)) hx hr hW' d (i 0) (i 1) ⟨256 * d + (i 0 : ℕ), by omega⟩ rfl

/-- The kernel computes the reference's result on the reals, block by block. -/
theorem algebraic [Cert.KernelIdeal.Facts] [Cert.ReferenceIdeal.Facts] : Cert.algebraic_KernelIdeal_ReferenceIdeal := by
  intro m g m' g' _ hin
  refine ⟨refv (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono ?_ (run_main (F := Ideal) m g)
    intro r hr c
    obtain ⟨h1, h2, h3, h4, h5⟩ := hr.1 c
    exact ⟨h1.trans (out_block m _ _ _ (fun d => (hin d).1) (fun d => (hin d).2.2.1) (fun d => (hin d).2.2.2) c), h2, h3, h4, h5⟩
  · refine (θ_run _ _ _).mono ?_ (Cert.ReferenceIdeal.Value.run (F := Ideal) m' g')
    intro r hr
    exact hr 0

end Cert.Moe
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

theorem claim : Cert.Claim := ⟨Cert.Kernel.Gen.facts, Cert.KernelIdeal.Gen.facts, Cert.ReferenceIdeal.Gen.facts,
  Cert.Moe.frame_kernel, Cert.Moe.frame_ideal, Cert.Moe.frame_reference, trivial,
  Cert.Moe.algebraic⟩

end Cert.Proof

end
